-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_search_lands [hPre_search_lands : Cert.Pre_search_lands.Facts] (m : (ℓ : Loc Cert.KernelIdeal.nD Cert.KernelIdeal.τ Cert.KernelIdeal.sig) → Buf (Elt Ideal) ℓ) : Prop :=
  ∀ c : Dev Cert.KernelIdeal.nD,
    (Cert.Pre_search_lands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_search_lands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_search_lands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_KernelIdeal_weights_identity [hPre_weights_identity : Cert.Pre_weights_identity.Facts] (m : (ℓ : Loc Cert.KernelIdeal.nD Cert.KernelIdeal.τ Cert.KernelIdeal.sig) → Buf (Elt Ideal) ℓ) : Prop :=
  ∀ c : Dev Cert.KernelIdeal.nD,
    (Cert.Pre_weights_identity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_weights_identity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_search_lands [hPre_search_lands : Cert.Pre_search_lands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_search_lands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_search_lands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_search_lands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_ReferenceIdeal_weights_identity [hPre_weights_identity : Cert.Pre_weights_identity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_identity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_weights_identity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_search_lands [hKernelIdeal : Cert.KernelIdeal.Facts] [hPre_search_lands : Cert.Pre_search_lands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_search_lands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_weights_identity [hKernelIdeal : Cert.KernelIdeal.Facts] [hPre_weights_identity : Cert.Pre_weights_identity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_identity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_search_lands [hReferenceIdeal : Cert.ReferenceIdeal.Facts] [hPre_search_lands : Cert.Pre_search_lands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_search_lands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_weights_identity [hReferenceIdeal : Cert.ReferenceIdeal.Facts] [hPre_weights_identity : Cert.Pre_weights_identity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_identity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_search_lands [hKernelIdeal : Cert.KernelIdeal.Facts] [hReferenceIdeal : Cert.ReferenceIdeal.Facts] [hPre_search_lands : Cert.Pre_search_lands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_search_lands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_landed_rows_pre_weights_identity [hKernelIdeal : Cert.KernelIdeal.Facts] [hReferenceIdeal : Cert.ReferenceIdeal.Facts] [hPre_weights_identity : Cert.Pre_weights_identity.Facts] [hOn_landed_rows : Cert.On_landed_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_identity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 8192]⟩ : Shape).Idx, (Cert.On_landed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 8192]⟩ : Shape).Idx, (Cert.On_landed_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v38) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_search_lands : Cert.Pre_search_lands.Facts) (hPre_weights_identity : Cert.Pre_weights_identity.Facts) (hOn_landed_rows : Cert.On_landed_rows.Facts),
    quiescent_Kernel (hKernel := hKernel)
    ∧ quiescent_KernelIdeal (hKernelIdeal := hKernelIdeal)
    ∧ quiescent_KernelIdeal_pre_search_lands (hKernelIdeal := hKernelIdeal) (hPre_search_lands := hPre_search_lands)
    ∧ quiescent_KernelIdeal_pre_weights_identity (hKernelIdeal := hKernelIdeal) (hPre_weights_identity := hPre_weights_identity)
    ∧ quiescent_ReferenceIdeal (hReferenceIdeal := hReferenceIdeal)
    ∧ quiescent_ReferenceIdeal_pre_search_lands (hReferenceIdeal := hReferenceIdeal) (hPre_search_lands := hPre_search_lands)
    ∧ quiescent_ReferenceIdeal_pre_weights_identity (hReferenceIdeal := hReferenceIdeal) (hPre_weights_identity := hPre_weights_identity)
    ∧ preserves_Kernel_KernelIdeal
    ∧ algebraic_KernelIdeal_ReferenceIdeal_pre_search_lands (hKernelIdeal := hKernelIdeal) (hReferenceIdeal := hReferenceIdeal) (hPre_search_lands := hPre_search_lands)
    ∧ algebraic_KernelIdeal_ReferenceIdeal_on_landed_rows_pre_weights_identity (hKernelIdeal := hKernelIdeal) (hReferenceIdeal := hReferenceIdeal) (hPre_weights_identity := hPre_weights_identity) (hOn_landed_rows := hOn_landed_rows)
-- ==== On_landed_rows.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x33 : Shape := ⟨2, ![8192, 33]⟩

class Facts : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  bcast_S8192x1_S8192x8192_0_1 : S8192x1.BroadcastsInDim S8192x8192 (![0, 1] : Fin 2 → Fin S8192x8192.rank)
  sliceFits_S8192x8192_S8192x33 : S8192x8192.Slices (fun _ => 0) S8192x33
  slices_S8192x33_S8192x1_0_29 : S8192x33.Slices ![0, 29] S8192x1
  slices_S8192x33_S8192x1_0_30 : S8192x33.Slices ![0, 30] S8192x1
  slices_S8192x33_S8192x1_0_31 : S8192x33.Slices ![0, 31] S8192x1
  slices_S8192x33_S8192x1_0_32 : S8192x33.Slices ![0, 32] S8192x1
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []

variable [Facts]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def fn_relu {F : FTy → Type} [FloatOps F] (arg0 : FVec F S8192x1024 .f32) : FVec F S8192x1024 .f32 :=
  let cst : FVec F S_ .f32 := constant S_ .f32 0x00000000#32
  let v0 : FVec F S8192x1024 .f32 := broadcastInDim S8192x1024 ![] bcast_S_S8192x1024 cst
  let v1 : FVec F S8192x1024 .f32 := maximumf arg0 v0
  v1

def fn_norm {F : FTy → Type} [FloatOps F] (arg0 : FVec F S8192x1024 .f32) : FVec F S8192x1 .f32 :=
  let v0 : FVec F S8192x1024 .f32 := mulf arg0 arg0
  let cst : FVec F S_ .f32 := constant S_ .f32 0x00000000#32
  let v1 : FVec F S8192 .f32 := (fun x v => Host.reduceAdd x v reducesTo_S8192x1024_S8192_d1 h_S_) v0 cst
  let v2 : FVec F S8192x1 .f32 := broadcastInDim S8192x1 ![0] bcast_S8192_S8192x1_0 v1
  let v3 : FVec F S8192x1 .f32 := Host.sqrt v2
  v3

def fn_similarity {F : FTy → Type} [FloatOps F] (arg0 : FVec F S8192x1024 .f32) (arg1 : FVec F S1024x1024 .f32) (arg2 : FVec F S1024 .f32) (arg3 : FVec F S1024x1024 .f32) (arg4 : FVec F S1024 .f32) : FVec F S8192x8192 .f32 :=
  let v0 : FVec F S1024x1024 .f32 := (transpose S1024x1024 [1, 0] · transposes_S1024x1024_S1024x1024_1_0) arg1
  let v1 : FVec F S8192x1024 .f32 := (fun l r => Host.dotGeneral dot_S8192x1024_S1024x1024_S8192x1024_1_0_0_1_n_n none l r) arg0 v0
  let v2 : FVec F S1x1024 .f32 := broadcastInDim S1x1024 ![1] bcast_S1024_S1x1024_1 arg2
  let v3 : FVec F S8192x1024 .f32 := broadcastInDim S8192x1024 ![0, 1] bcast_S1x1024_S8192x1024_0_1 v2
  let v4 : FVec F S8192x1024 .f32 := addf v1 v3
  let v5 : FVec F S8192x1024 .f32 := fn_relu (F := F) v4
  let v6 : FVec F S1024x1024 .f32 := (transpose S1024x1024 [1, 0] · transposes_S1024x1024_S1024x1024_1_0) arg3
  let v7 : FVec F S8192x1024 .f32 := (fun l r => Host.dotGeneral dot_S8192x1024_S1024x1024_S8192x1024_1_0_0_1_n_n none l r) v5 v6
  let v8 : FVec F S1x1024 .f32 := broadcastInDim S1x1024 ![1] bcast_S1024_S1x1024_1 arg4
  let v9 : FVec F S8192x1024 .f32 := broadcastInDim S8192x1024 ![0, 1] bcast_S1x1024_S8192x1024_0_1 v8
  let v10 : FVec F S8192x1024 .f32 := addf v7 v9
  let v11 : FVec F S8192x1 .f32 := fn_norm (F := F) v10
  let cst : FVec F S_ .f32 := constant S_ .f32 0x2B8CBCCC#32
  let v12 : FVec F S8192x1 .f32 := broadcastInDim S8192x1 ![] bcast_S_S8192x1 cst
  let v13 : FVec F S8192x1 .f32 := maximumf v11 v12
  let v14 : FVec F S8192x1024 .f32 := broadcastInDim S8192x1024 ![0, 1] bcast_S8192x1_S8192x1024_0_1 v13
  let v15 : FVec F S8192x1024 .f32 := Host.divf v10 v14
  let v16 : FVec F S1024x8192 .f32 := (transpose S1024x8192 [1, 0] · transposes_S8192x1024_S1024x8192_1_0) v15
  let v17 : FVec F S8192x8192 .f32 := (fun l r => Host.dotGeneral dot_S8192x1024_S1024x8192_S8192x8192_1_0_0_1_n_n none l r) v15 v16
  v17

def fn_count_from {F : FTy → Type} [FloatOps F] (arg0 : FVec F S8192x8192 .f32) (arg1 : FVec F S8192x1 .f32) : FVec F S8192x1 .f32 :=
  let v0 : FVec F S8192x8192 .f32 := broadcastInDim S8192x8192 ![0, 1] bcast_S8192x1_S8192x8192_0_1 arg1
  let v1 : IVec S8192x8192 1 := cmpf .oge arg0 v0
  let v2 : FVec F S8192x8192 .f32 := uitofp .f32 v1
  let cst : FVec F S_ .f32 := constant S_ .f32 0x00000000#32
  let v3 : FVec F S8192 .f32 := (fun x v => Host.reduceAdd x v reducesTo_S8192x8192_S8192_d1 h_S_) v2 cst
  let v4 : FVec F S8192x1 .f32 := broadcastInDim S8192x1 ![0] bcast_S8192_S8192x1_0 v3
  v4

def fn_where {F : FTy → Type} [FloatOps F] (arg0 : IVec S8192x1 1) (arg1 : FVec F S8192x1 .f32) (arg2 : FVec F S8192x1 .f32) : FVec F S8192x1 .f32 :=
  let v0 : FVec F S8192x1 .f32 := select arg0 arg1 arg2
  v0

def fn_probe_part2 {F : FTy → Type} [FloatOps F] (v10 : FVec F S8192x1 .f32) (v11 : FVec F S8192x1 .f32) (v13 : FVec F S8192x1 .f32) (v14 : FVec F S8192x1 .f32) (v31 : FVec F S8192x1 .f32) (v32 : FVec F S8192x1 .f32) (v36 : FVec F S8192x1 .f32) (v37 : FVec F S8192x1 .f32) : FVec F S8192x1 .f32 × FVec F S8192x1 .f32 × FVec F S8192x1 .f32 × FVec F S8192x1 .f32 × FVec F S8192x1 .f32 :=
  let cst_9 : FVec F S_ .f32 := constant S_ .f32 0x3F800000#32
  let v38 : FVec F S8192x1 .f32 := broadcastInDim S8192x1 ![] bcast_S_S8192x1 cst_9
  let v39 : FVec F S8192x1 .f32 := addf v37 v38
  let v40 : FVec F S8192x1 .f32 := Host.divf v36 v39
  let v41 : FVec F S8192x1 .f32 := mulf v32 v40
  let v42 : FVec F S8192x1 .f32 := addf v10 v41
  let v43 : FVec F S8192x1 .f32 := subf v11 v14
  let cst_10 : FVec F S_ .f32 := constant S_ .f32 0x42800000#32
  let v44 : FVec F S8192x1 .f32 := broadcastInDim S8192x1 ![] bcast_S_S8192x1 cst_10
  let v45 : IVec S8192x1 1 := cmpf .ole v43 v44
  let v46 : FVec F S8192x1 .f32 := fn_where (F := F) v45 v42 v31
  let v47 : IVec S8192x1 1 := cmpf .ole v46 v10
  let v48 : IVec S8192x1 1 := cmpf .oge v46 v13
  let v49 : IVec S8192x1 1 := ori v47 v48
  let v50 : FVec F S8192x1 .f32 := addf v10 v13
  let cst_11 : FVec F S_ .f32 := constant S_ .f32 0x3F000000#32
  let v51 : FVec F S8192x1 .f32 := broadcastInDim S8192x1 ![] bcast_S_S8192x1 cst_11
  let v52 : FVec F S8192x1 .f32 := mulf v51 v50
  let v53 : FVec F S8192x1 .f32 := fn_where (F := F) v49 v52 v46
  (v10, v11, v13, v14, v53)

def fn_probe_part1 {F : FTy → Type} [FloatOps F] (arg2 : FVec F S8192x1 .f32) (v5 : FVec F S8192x1 .f32) (v6 : FVec F S8192x1 .f32) (v10 : FVec F S8192x1 .f32) (v11 : FVec F S8192x1 .f32) (v13 : FVec F S8192x1 .f32) (v14 : FVec F S8192x1 .f32) (v19 : FVec F S8192x1 .f32) : FVec F S8192x1 .f32 × FVec F S8192x1 .f32 × FVec F S8192x1 .f32 × FVec F S8192x1 .f32 × FVec F S8192x1 .f32 :=
  let v20 : FVec F S8192x1 .f32 := Host.exp v19
  let cst_3 : FVec F S_ .f32 := constant S_ .f32 0x46000000#32
  let v21 : FVec F S8192x1 .f32 := broadcastInDim S8192x1 ![] bcast_S_S8192x1 cst_3
  let v22 : FVec F S8192x1 .f32 := mulf v21 v20
  let cst_4 : FVec F S_ .f32 := constant S_ .f32 0x3ECC422A#32
  let v23 : FVec F S8192x1 .f32 := broadcastInDim S8192x1 ![] bcast_S_S8192x1 cst_4
  let v24 : FVec F S8192x1 .f32 := mulf v22 v23
  let v25 : FVec F S8192x1 .f32 := Host.divf v24 arg2
  let cst_5 : FVec F S_ .f32 := constant S_ .f32 0x41F80000#32
  let v26 : FVec F S8192x1 .f32 := broadcastInDim S8192x1 ![] bcast_S_S8192x1 cst_5
  let v27 : FVec F S8192x1 .f32 := subf v6 v26
  let cst_6 : FVec F S_ .f32 := constant S_ .f32 0x3A83126F#32
  let v28 : FVec F S8192x1 .f32 := broadcastInDim S8192x1 ![] bcast_S_S8192x1 cst_6
  let v29 : FVec F S8192x1 .f32 := maximumf v25 v28
  let v30 : FVec F S8192x1 .f32 := Host.divf v27 v29
  let v31 : FVec F S8192x1 .f32 := addf v5 v30
  let v32 : FVec F S8192x1 .f32 := subf v13 v10
  let cst_7 : FVec F S_ .f32 := constant S_ .f32 0x41F80000#32
  let v33 : FVec F S8192x1 .f32 := broadcastInDim S8192x1 ![] bcast_S_S8192x1 cst_7
  let v34 : FVec F S8192x1 .f32 := subf v11 v33
  let cst_8 : FVec F S_ .f32 := constant S_ .f32 0x3F000000#32
  let v35 : FVec F S8192x1 .f32 := broadcastInDim S8192x1 ![] bcast_S_S8192x1 cst_8
  let v36 : FVec F S8192x1 .f32 := addf v34 v35
  let v37 : FVec F S8192x1 .f32 := subf v11 v14
  fn_probe_part2 (F := F) v10 v11 v13 v14 v31 v32 v36 v37

def fn_probe {F : FTy → Type} [FloatOps F] (arg0 : FVec F S8192x8192 .f32) (arg1 : FVec F S8192x1 .f32) (arg2 : FVec F S8192x1 .f32) (arg3 : FVec F S8192x1 .f32) (arg4 : FVec F S8192x1 .f32) (arg5 : FVec F S8192x1 .f32) (arg6 : FVec F S8192x1 .f32) (arg7 : FVec F S8192x1 .f32) : FVec F S8192x1 .f32 × FVec F S8192x1 .f32 × FVec F S8192x1 .f32 × FVec F S8192x1 .f32 × FVec F S8192x1 .f32 :=
  let cst : FVec F S_ .f32 := constant S_ .f32 0x3089705F#32
  let v0 : FVec F S8192x1 .f32 := broadcastInDim S8192x1 ![] bcast_S_S8192x1 cst
  let v1 : FVec F S8192x1 .f32 := subf arg5 v0
  let cst_0 : FVec F S_ .f32 := constant S_ .f32 0x3089705F#32
  let v2 : FVec F S8192x1 .f32 := broadcastInDim S8192x1 ![] bcast_S_S8192x1 cst_0
  let v3 : FVec F S8192x1 .f32 := addf arg3 v2
  let v4 : FVec F S8192x1 .f32 := maximumf v3 arg7
  let v5 : FVec F S8192x1 .f32 := minimumf v1 v4
  let v6 : FVec F S8192x1 .f32 := fn_count_from (F := F) arg0 v5
  let cst_1 : FVec F S_ .f32 := constant S_ .f32 0x41F80000#32
  let v7 : FVec F S8192x1 .f32 := broadcastInDim S8192x1 ![] bcast_S_S8192x1 cst_1
  let v8 : IVec S8192x1 1 := cmpf .oge v6 v7
  let v9 : FVec F S8192x1 .f32 := maximumf arg3 v5
  let v10 : FVec F S8192x1 .f32 := fn_where (F := F) v8 v9 arg3
  let v11 : FVec F S8192x1 .f32 := fn_where (F := F) v8 v6 arg4
  let v12 : FVec F S8192x1 .f32 := minimumf arg5 v5
  let v13 : FVec F S8192x1 .f32 := fn_where (F := F) v8 arg5 v12
  let v14 : FVec F S8192x1 .f32 := fn_where (F := F) v8 arg6 v6
  let v15 : FVec F S8192x1 .f32 := subf v5 arg1
  let v16 : FVec F S8192x1 .f32 := Host.divf v15 arg2
  let cst_2 : FVec F S_ .f32 := constant S_ .f32 0xBF000000#32
  let v17 : FVec F S8192x1 .f32 := broadcastInDim S8192x1 ![] bcast_S_S8192x1 cst_2
  let v18 : FVec F S8192x1 .f32 := mulf v17 v16
  let v19 : FVec F S8192x1 .f32 := mulf v18 v16
  fn_probe_part1 (F := F) arg2 v5 v6 v10 v11 v13 v14 v19

def fn_landed_part1 {F : FTy → Type} [FloatOps F] (arg2 : FVec F S8192x1 .f32) (v4 : IVec S8192x1 1) (v15 : IVec S8192x1 1) (v17 : IVec S8192x1 1) (v19 : IVec S8192x1 1) : IVec S8192x1 1 :=
  let v20 : IVec S8192x1 1 := ori v17 v19
  let cst_1 : FVec F S_ .f32 := constant S_ .f32 0x41F80000#32
  let v21 : FVec F S8192x1 .f32 := broadcastInDim S8192x1 ![] bcast_S_S8192x1 cst_1
  let v22 : IVec S8192x1 1 := cmpf .oeq arg2 v21
  let v23 : IVec S8192x1 1 := andi v20 v15
  let v24 : IVec S8192x1 1 := ori v22 v23
  let v25 : IVec S8192x1 1 := andi v4 v24
  v25

def fn_landed {F : FTy → Type} [FloatOps F] (arg0 : FVec F S8192x8192 .f32) (arg1 : FVec F S8192x1 .f32) (arg2 : FVec F S8192x1 .f32) (arg3 : FVec F S8192x1 .f32) (arg4 : FVec F S8192x1 .f32) : IVec S8192x1 1 :=
  let v0 : FVec F S8192x1 .f32 := fn_count_from (F := F) arg0 arg1
  let v1 : IVec S8192x1 1 := cmpf .oeq arg2 v0
  let v2 : FVec F S8192x1 .f32 := fn_count_from (F := F) arg0 arg3
  let v3 : IVec S8192x1 1 := cmpf .oeq arg4 v2
  let v4 : IVec S8192x1 1 := andi v1 v3
  let values : FVec F S8192x33 .f32 := (fun x => (Host.topK S8192x33 1 (FloatOps.cmpfTotal .gt) x sliceFits_S8192x8192_S8192x33).1) arg0
  let indices : IVec S8192x33 32 := (fun x => (Host.topK S8192x33 1 (FloatOps.cmpfTotal .gt) x sliceFits_S8192x8192_S8192x33).2) arg0
  let v5 : FVec F S8192x1 .f32 := (extractStridedSlice S8192x1 ![0, 29] · slices_S8192x33_S8192x1_0_29) values
  let v6 : FVec F S8192x1 .f32 := (extractStridedSlice S8192x1 ![0, 30] · slices_S8192x33_S8192x1_0_30) values
  let v7 : IVec S8192x1 1 := cmpf .ogt v5 v6
  let v8 : FVec F S8192x1 .f32 := (extractStridedSlice S8192x1 ![0, 30] · slices_S8192x33_S8192x1_0_30) values
  let v9 : FVec F S8192x1 .f32 := (extractStridedSlice S8192x1 ![0, 31] · slices_S8192x33_S8192x1_0_31) values
  let v10 : IVec S8192x1 1 := cmpf .ogt v8 v9
  let v11 : IVec S8192x1 1 := andi v7 v10
  let v12 : FVec F S8192x1 .f32 := (extractStridedSlice S8192x1 ![0, 31] · slices_S8192x33_S8192x1_0_31) values
  let v13 : FVec F S8192x1 .f32 := (extractStridedSlice S8192x1 ![0, 32] · slices_S8192x33_S8192x1_0_32) values
  let v14 : IVec S8192x1 1 := cmpf .ogt v12 v13
  let v15 : IVec S8192x1 1 := andi v11 v14
  let cst : FVec F S_ .f32 := constant S_ .f32 0x42040000#32
  let v16 : FVec F S8192x1 .f32 := broadcastInDim S8192x1 ![] bcast_S_S8192x1 cst
  let v17 : IVec S8192x1 1 := cmpf .ole arg2 v16
  let cst_0 : FVec F S_ .f32 := constant S_ .f32 0x41E80000#32
  let v18 : FVec F S8192x1 .f32 := broadcastInDim S8192x1 ![] bcast_S_S8192x1 cst_0
  let v19 : IVec S8192x1 1 := cmpf .oge arg4 v18
  fn_landed_part1 (F := F) arg2 v4 v15 v17 v19

def fn_part2 {F : FTy → Type} [FloatOps F] (main_v0 : FVec F S8192x8192 .f32) (main_v4 : FVec F S8192x1 .f32) (main_v14 : FVec F S8192x1 .f32) (main_v24_0 : FVec F S8192x1 .f32) (main_v24_1 : FVec F S8192x1 .f32) (main_v24_2 : FVec F S8192x1 .f32) (main_v24_3 : FVec F S8192x1 .f32) (main_v24_4 : FVec F S8192x1 .f32) (main_v25_0 : FVec F S8192x1 .f32) : IVec S8192x8192 1 :=
  let main_v25_1 : FVec F S8192x1 .f32 := (fn_probe (F := F) main_v0 main_v4 main_v14 main_v24_0 main_v24_1 main_v24_2 main_v24_3 main_v24_4).2.1
  let main_v25_2 : FVec F S8192x1 .f32 := (fn_probe (F := F) main_v0 main_v4 main_v14 main_v24_0 main_v24_1 main_v24_2 main_v24_3 main_v24_4).2.2.1
  let main_v25_3 : FVec F S8192x1 .f32 := (fn_probe (F := F) main_v0 main_v4 main_v14 main_v24_0 main_v24_1 main_v24_2 main_v24_3 main_v24_4).2.2.2.1
  let main_v25_4 : FVec F S8192x1 .f32 := (fn_probe (F := F) main_v0 main_v4 main_v14 main_v24_0 main_v24_1 main_v24_2 main_v24_3 main_v24_4).2.2.2.2
  let main_v26_0 : FVec F S8192x1 .f32 := (fn_probe (F := F) main_v0 main_v4 main_v14 main_v25_0 main_v25_1 main_v25_2 main_v25_3 main_v25_4).1
  let main_v26_1 : FVec F S8192x1 .f32 := (fn_probe (F := F) main_v0 main_v4 main_v14 main_v25_0 main_v25_1 main_v25_2 main_v25_3 main_v25_4).2.1
  let main_v26_2 : FVec F S8192x1 .f32 := (fn_probe (F := F) main_v0 main_v4 main_v14 main_v25_0 main_v25_1 main_v25_2 main_v25_3 main_v25_4).2.2.1
  let main_v26_3 : FVec F S8192x1 .f32 := (fn_probe (F := F) main_v0 main_v4 main_v14 main_v25_0 main_v25_1 main_v25_2 main_v25_3 main_v25_4).2.2.2.1
  let main_v26_4 : FVec F S8192x1 .f32 := (fn_probe (F := F) main_v0 main_v4 main_v14 main_v25_0 main_v25_1 main_v25_2 main_v25_3 main_v25_4).2.2.2.2
  let main_v27_0 : FVec F S8192x1 .f32 := (fn_probe (F := F) main_v0 main_v4 main_v14 main_v26_0 main_v26_1 main_v26_2 main_v26_3 main_v26_4).1
  let main_v27_1 : FVec F S8192x1 .f32 := (fn_probe (F := F) main_v0 main_v4 main_v14 main_v26_0 main_v26_1 main_v26_2 main_v26_3 main_v26_4).2.1
  let main_v27_2 : FVec F S8192x1 .f32 := (fn_probe (F := F) main_v0 main_v4 main_v14 main_v26_0 main_v26_1 main_v26_2 main_v26_3 main_v26_4).2.2.1
  let main_v27_3 : FVec F S8192x1 .f32 := (fn_probe (F := F) main_v0 main_v4 main_v14 main_v26_0 main_v26_1 main_v26_2 main_v26_3 main_v26_4).2.2.2.1
  let main_v27_4 : FVec F S8192x1 .f32 := (fn_probe (F := F) main_v0 main_v4 main_v14 main_v26_0 main_v26_1 main_v26_2 main_v26_3 main_v26_4).2.2.2.2
  let main_v28_0 : FVec F S8192x1 .f32 := (fn_probe (F := F) main_v0 main_v4 main_v14 main_v27_0 main_v27_1 main_v27_2 main_v27_3 main_v27_4).1
  let main_v28_1 : FVec F S8192x1 .f32 := (fn_probe (F := F) main_v0 main_v4 main_v14 main_v27_0 main_v27_1 main_v27_2 main_v27_3 main_v27_4).2.1
  let main_v28_2 : FVec F S8192x1 .f32 := (fn_probe (F := F) main_v0 main_v4 main_v14 main_v27_0 main_v27_1 main_v27_2 main_v27_3 main_v27_4).2.2.1
  let main_v28_3 : FVec F S8192x1 .f32 := (fn_probe (F := F) main_v0 main_v4 main_v14 main_v27_0 main_v27_1 main_v27_2 main_v27_3 main_v27_4).2.2.2.1
  let main_v28_4 : FVec F S8192x1 .f32 := (fn_probe (F := F) main_v0 main_v4 main_v14 main_v27_0 main_v27_1 main_v27_2 main_v27_3 main_v27_4).2.2.2.2
  let main_v29 : IVec S8192x1 1 := fn_landed (F := F) main_v0 main_v28_0 main_v28_1 main_v28_2 main_v28_3
  let main_v30 : IVec S8192x8192 1 := broadcastInDim S8192x8192 ![0, 1] bcast_S8192x1_S8192x8192_0_1 main_v29
  main_v30

def fn_part1 {F : FTy → Type} [FloatOps F] (main_v0 : FVec F S8192x8192 .f32) (main_v4 : FVec F S8192x1 .f32) (main_v14 : FVec F S8192x1 .f32) (main_v15 : FVec F S8192x1 .f32) (main_v16 : FVec F S8192x1 .f32) : IVec S8192x8192 1 :=
  let main_cst_6 : FVec F S_ .f32 := constant S_ .f32 0x46000000#32
  let main_v17 : FVec F S8192x1 .f32 := broadcastInDim S8192x1 ![] bcast_S_S8192x1 main_cst_6
  let main_cst_7 : FVec F S_ .f32 := constant S_ .f32 0x00000000#32
  let main_v18 : FVec F S8192x1 .f32 := broadcastInDim S8192x1 ![] bcast_S_S8192x1 main_cst_7
  let main_cst_8 : FVec F S_ .f32 := constant S_ .f32 0x402A9FBE#32
  let main_v19 : FVec F S8192x1 .f32 := broadcastInDim S8192x1 ![] bcast_S_S8192x1 main_cst_8
  let main_v20 : FVec F S8192x1 .f32 := mulf main_v19 main_v14
  let main_v21 : FVec F S8192x1 .f32 := addf main_v4 main_v20
  let main_v22_0 : FVec F S8192x1 .f32 := (fn_probe (F := F) main_v0 main_v4 main_v14 main_v15 main_v17 main_v16 main_v18 main_v21).1
  let main_v22_1 : FVec F S8192x1 .f32 := (fn_probe (F := F) main_v0 main_v4 main_v14 main_v15 main_v17 main_v16 main_v18 main_v21).2.1
  let main_v22_2 : FVec F S8192x1 .f32 := (fn_probe (F := F) main_v0 main_v4 main_v14 main_v15 main_v17 main_v16 main_v18 main_v21).2.2.1
  let main_v22_3 : FVec F S8192x1 .f32 := (fn_probe (F := F) main_v0 main_v4 main_v14 main_v15 main_v17 main_v16 main_v18 main_v21).2.2.2.1
  let main_v22_4 : FVec F S8192x1 .f32 := (fn_probe (F := F) main_v0 main_v4 main_v14 main_v15 main_v17 main_v16 main_v18 main_v21).2.2.2.2
  let main_v23_0 : FVec F S8192x1 .f32 := (fn_probe (F := F) main_v0 main_v4 main_v14 main_v22_0 main_v22_1 main_v22_2 main_v22_3 main_v22_4).1
  let main_v23_1 : FVec F S8192x1 .f32 := (fn_probe (F := F) main_v0 main_v4 main_v14 main_v22_0 main_v22_1 main_v22_2 main_v22_3 main_v22_4).2.1
  let main_v23_2 : FVec F S8192x1 .f32 := (fn_probe (F := F) main_v0 main_v4 main_v14 main_v22_0 main_v22_1 main_v22_2 main_v22_3 main_v22_4).2.2.1
  let main_v23_3 : FVec F S8192x1 .f32 := (fn_probe (F := F) main_v0 main_v4 main_v14 main_v22_0 main_v22_1 main_v22_2 main_v22_3 main_v22_4).2.2.2.1
  let main_v23_4 : FVec F S8192x1 .f32 := (fn_probe (F := F) main_v0 main_v4 main_v14 main_v22_0 main_v22_1 main_v22_2 main_v22_3 main_v22_4).2.2.2.2
  let main_v24_0 : FVec F S8192x1 .f32 := (fn_probe (F := F) main_v0 main_v4 main_v14 main_v23_0 main_v23_1 main_v23_2 main_v23_3 main_v23_4).1
  let main_v24_1 : FVec F S8192x1 .f32 := (fn_probe (F := F) main_v0 main_v4 main_v14 main_v23_0 main_v23_1 main_v23_2 main_v23_3 main_v23_4).2.1
  let main_v24_2 : FVec F S8192x1 .f32 := (fn_probe (F := F) main_v0 main_v4 main_v14 main_v23_0 main_v23_1 main_v23_2 main_v23_3 main_v23_4).2.2.1
  let main_v24_3 : FVec F S8192x1 .f32 := (fn_probe (F := F) main_v0 main_v4 main_v14 main_v23_0 main_v23_1 main_v23_2 main_v23_3 main_v23_4).2.2.2.1
  let main_v24_4 : FVec F S8192x1 .f32 := (fn_probe (F := F) main_v0 main_v4 main_v14 main_v23_0 main_v23_1 main_v23_2 main_v23_3 main_v23_4).2.2.2.2
  let main_v25_0 : FVec F S8192x1 .f32 := (fn_probe (F := F) main_v0 main_v4 main_v14 main_v24_0 main_v24_1 main_v24_2 main_v24_3 main_v24_4).1
  fn_part2 (F := F) main_v0 main_v4 main_v14 main_v24_0 main_v24_1 main_v24_2 main_v24_3 main_v24_4 main_v25_0

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) : IVec S8192x8192 1 :=
  let main_v0 : FVec F S8192x8192 .f32 := fn_similarity (F := F) main_arg0 main_arg1 main_arg2 main_arg3 main_arg4
  let main_cst : FVec F S_ .f32 := constant S_ .f32 0x00000000#32
  let main_v1 : FVec F S8192 .f32 := (fun x v => Host.reduceAdd x v reducesTo_S8192x8192_S8192_d1 h_S_) main_v0 main_cst
  let main_v2 : FVec F S8192x1 .f32 := broadcastInDim S8192x1 ![0] bcast_S8192_S8192x1_0 main_v1
  let main_cst_0 : FVec F S_ .f32 := constant S_ .f32 0x46000000#32
  let main_v3 : FVec F S8192x1 .f32 := broadcastInDim S8192x1 ![] bcast_S_S8192x1 main_cst_0
  let main_v4 : FVec F S8192x1 .f32 := Host.divf main_v2 main_v3
  let main_v5 : FVec F S8192x8192 .f32 := mulf main_v0 main_v0
  let main_cst_1 : FVec F S_ .f32 := constant S_ .f32 0x00000000#32
  let main_v6 : FVec F S8192 .f32 := (fun x v => Host.reduceAdd x v reducesTo_S8192x8192_S8192_d1 h_S_) main_v5 main_cst_1
  let main_v7 : FVec F S8192x1 .f32 := broadcastInDim S8192x1 ![0] bcast_S8192_S8192x1_0 main_v6
  let main_cst_2 : FVec F S_ .f32 := constant S_ .f32 0x46000000#32
  let main_v8 : FVec F S8192x1 .f32 := broadcastInDim S8192x1 ![] bcast_S_S8192x1 main_cst_2
  let main_v9 : FVec F S8192x1 .f32 := Host.divf main_v7 main_v8
  let main_v10 : FVec F S8192x1 .f32 := mulf main_v4 main_v4
  let main_v11 : FVec F S8192x1 .f32 := subf main_v9 main_v10
  let main_cst_3 : FVec F S_ .f32 := constant S_ .f32 0x2B8CBCCC#32
  let main_v12 : FVec F S8192x1 .f32 := broadcastInDim S8192x1 ![] bcast_S_S8192x1 main_cst_3
  let main_v13 : FVec F S8192x1 .f32 := maximumf main_v11 main_v12
  let main_v14 : FVec F S8192x1 .f32 := Host.sqrt main_v13
  let main_cst_4 : FVec F S_ .f32 := constant S_ .f32 0xBF8147AE#32
  let main_v15 : FVec F S8192x1 .f32 := broadcastInDim S8192x1 ![] bcast_S_S8192x1 main_cst_4
  let main_cst_5 : FVec F S_ .f32 := constant S_ .f32 0x3F8147AE#32
  let main_v16 : FVec F S8192x1 .f32 := broadcastInDim S8192x1 ![] bcast_S_S8192x1 main_cst_5
  fn_part1 (F := F) main_v0 main_v4 main_v14 main_v15 main_v16
-- ==== Pre_search_lands.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x33 : Shape := ⟨2, ![8192, 33]⟩

class Facts : Prop where
  bcast_S_S1024x1024 : S_.BroadcastsInDim S1024x1024 (![] : Fin 0 → Fin S1024x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  reducesTo_S8192x8192_S8192_d1 : S8192x8192.ReducesTo [1] S8192
  bcast_S8192x1_S8192x8192_0_1 : S8192x1.BroadcastsInDim S8192x8192 (![0, 1] : Fin 2 → Fin S8192x8192.rank)
  sliceFits_S8192x8192_S8192x33 : S8192x8192.Slices (fun _ => 0) S8192x33
  slices_S8192x33_S8192x1_0_29 : S8192x33.Slices ![0, 29] S8192x1
  slices_S8192x33_S8192x1_0_30 : S8192x33.Slices ![0, 30] S8192x1
  slices_S8192x33_S8192x1_0_31 : S8192x33.Slices ![0, 31] S8192x1
  slices_S8192x33_S8192x1_0_32 : S8192x33.Slices ![0, 32] S8192x1
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []

variable [Facts]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def fn_relu {F : FTy → Type} [FloatOps F] (arg0 : FVec F S8192x1024 .f32) : FVec F S8192x1024 .f32 :=
  let cst : FVec F S_ .f32 := constant S_ .f32 0x00000000#32
  let v0 : FVec F S8192x1024 .f32 := broadcastInDim S8192x1024 ![] bcast_S_S8192x1024 cst
  let v1 : FVec F S8192x1024 .f32 := maximumf arg0 v0
  v1

def fn_norm {F : FTy → Type} [FloatOps F] (arg0 : FVec F S8192x1024 .f32) : FVec F S8192x1 .f32 :=
  let v0 : FVec F S8192x1024 .f32 := mulf arg0 arg0
  let cst : FVec F S_ .f32 := constant S_ .f32 0x00000000#32
  let v1 : FVec F S8192 .f32 := (fun x v => Host.reduceAdd x v reducesTo_S8192x1024_S8192_d1 h_S_) v0 cst
  let v2 : FVec F S8192x1 .f32 := broadcastInDim S8192x1 ![0] bcast_S8192_S8192x1_0 v1
  let v3 : FVec F S8192x1 .f32 := Host.sqrt v2
  v3

def fn_similarity {F : FTy → Type} [FloatOps F] (arg0 : FVec F S8192x1024 .f32) (arg1 : FVec F S1024x1024 .f32) (arg2 : FVec F S1024 .f32) (arg3 : FVec F S1024x1024 .f32) (arg4 : FVec F S1024 .f32) : FVec F S8192x8192 .f32 :=
  let v0 : FVec F S1024x1024 .f32 := (transpose S1024x1024 [1, 0] · transposes_S1024x1024_S1024x1024_1_0) arg1
  let v1 : FVec F S8192x1024 .f32 := (fun l r => Host.dotGeneral dot_S8192x1024_S1024x1024_S8192x1024_1_0_0_1_n_n none l r) arg0 v0
  let v2 : FVec F S1x1024 .f32 := broadcastInDim S1x1024 ![1] bcast_S1024_S1x1024_1 arg2
  let v3 : FVec F S8192x1024 .f32 := broadcastInDim S8192x1024 ![0, 1] bcast_S1x1024_S8192x1024_0_1 v2
  let v4 : FVec F S8192x1024 .f32 := addf v1 v3
  let v5 : FVec F S8192x1024 .f32 := fn_relu (F := F) v4
  let v6 : FVec F S1024x1024 .f32 := (transpose S1024x1024 [1, 0] · transposes_S1024x1024_S1024x1024_1_0) arg3
  let v7 : FVec F S8192x1024 .f32 := (fun l r => Host.dotGeneral dot_S8192x1024_S1024x1024_S8192x1024_1_0_0_1_n_n none l r) v5 v6
  let v8 : FVec F S1x1024 .f32 := broadcastInDim S1x1024 ![1] bcast_S1024_S1x1024_1 arg4
  let v9 : FVec F S8192x1024 .f32 := broadcastInDim S8192x1024 ![0, 1] bcast_S1x1024_S8192x1024_0_1 v8
  let v10 : FVec F S8192x1024 .f32 := addf v7 v9
  let v11 : FVec F S8192x1 .f32 := fn_norm (F := F) v10
  let cst : FVec F S_ .f32 := constant S_ .f32 0x2B8CBCCC#32
  let v12 : FVec F S8192x1 .f32 := broadcastInDim S8192x1 ![] bcast_S_S8192x1 cst
  let v13 : FVec F S8192x1 .f32 := maximumf v11 v12
  let v14 : FVec F S8192x1024 .f32 := broadcastInDim S8192x1024 ![0, 1] bcast_S8192x1_S8192x1024_0_1 v13
  let v15 : FVec F S8192x1024 .f32 := Host.divf v10 v14
  let v16 : FVec F S1024x8192 .f32 := (transpose S1024x8192 [1, 0] · transposes_S8192x1024_S1024x8192_1_0) v15
  let v17 : FVec F S8192x8192 .f32 := (fun l r => Host.dotGeneral dot_S8192x1024_S1024x8192_S8192x8192_1_0_0_1_n_n none l r) v15 v16
  v17

def fn_count_from {F : FTy → Type} [FloatOps F] (arg0 : FVec F S8192x8192 .f32) (arg1 : FVec F S8192x1 .f32) : FVec F S8192x1 .f32 :=
  let v0 : FVec F S8192x8192 .f32 := broadcastInDim S8192x8192 ![0, 1] bcast_S8192x1_S8192x8192_0_1 arg1
  let v1 : IVec S8192x8192 1 := cmpf .oge arg0 v0
  let v2 : FVec F S8192x8192 .f32 := uitofp .f32 v1
  let cst : FVec F S_ .f32 := constant S_ .f32 0x00000000#32
  let v3 : FVec F S8192 .f32 := (fun x v => Host.reduceAdd x v reducesTo_S8192x8192_S8192_d1 h_S_) v2 cst
  let v4 : FVec F S8192x1 .f32 := broadcastInDim S8192x1 ![0] bcast_S8192_S8192x1_0 v3
  v4

def fn_where {F : FTy → Type} [FloatOps F] (arg0 : IVec S8192x1 1) (arg1 : FVec F S8192x1 .f32) (arg2 : FVec F S8192x1 .f32) : FVec F S8192x1 .f32 :=
  let v0 : FVec F S8192x1 .f32 := select arg0 arg1 arg2
  v0

def fn_probe_part2 {F : FTy → Type} [FloatOps F] (v10 : FVec F S8192x1 .f32) (v11 : FVec F S8192x1 .f32) (v13 : FVec F S8192x1 .f32) (v14 : FVec F S8192x1 .f32) (v31 : FVec F S8192x1 .f32) (v32 : FVec F S8192x1 .f32) (v36 : FVec F S8192x1 .f32) (v37 : FVec F S8192x1 .f32) : FVec F S8192x1 .f32 × FVec F S8192x1 .f32 × FVec F S8192x1 .f32 × FVec F S8192x1 .f32 × FVec F S8192x1 .f32 :=
  let cst_9 : FVec F S_ .f32 := constant S_ .f32 0x3F800000#32
  let v38 : FVec F S8192x1 .f32 := broadcastInDim S8192x1 ![] bcast_S_S8192x1 cst_9
  let v39 : FVec F S8192x1 .f32 := addf v37 v38
  let v40 : FVec F S8192x1 .f32 := Host.divf v36 v39
  let v41 : FVec F S8192x1 .f32 := mulf v32 v40
  let v42 : FVec F S8192x1 .f32 := addf v10 v41
  let v43 : FVec F S8192x1 .f32 := subf v11 v14
  let cst_10 : FVec F S_ .f32 := constant S_ .f32 0x42800000#32
  let v44 : FVec F S8192x1 .f32 := broadcastInDim S8192x1 ![] bcast_S_S8192x1 cst_10
  let v45 : IVec S8192x1 1 := cmpf .ole v43 v44
  let v46 : FVec F S8192x1 .f32 := fn_where (F := F) v45 v42 v31
  let v47 : IVec S8192x1 1 := cmpf .ole v46 v10
  let v48 : IVec S8192x1 1 := cmpf .oge v46 v13
  let v49 : IVec S8192x1 1 := ori v47 v48
  let v50 : FVec F S8192x1 .f32 := addf v10 v13
  let cst_11 : FVec F S_ .f32 := constant S_ .f32 0x3F000000#32
  let v51 : FVec F S8192x1 .f32 := broadcastInDim S8192x1 ![] bcast_S_S8192x1 cst_11
  let v52 : FVec F S8192x1 .f32 := mulf v51 v50
  let v53 : FVec F S8192x1 .f32 := fn_where (F := F) v49 v52 v46
  (v10, v11, v13, v14, v53)

def fn_probe_part1 {F : FTy → Type} [FloatOps F] (arg2 : FVec F S8192x1 .f32) (v5 : FVec F S8192x1 .f32) (v6 : FVec F S8192x1 .f32) (v10 : FVec F S8192x1 .f32) (v11 : FVec F S8192x1 .f32) (v13 : FVec F S8192x1 .f32) (v14 : FVec F S8192x1 .f32) (v19 : FVec F S8192x1 .f32) : FVec F S8192x1 .f32 × FVec F S8192x1 .f32 × FVec F S8192x1 .f32 × FVec F S8192x1 .f32 × FVec F S8192x1 .f32 :=
  let v20 : FVec F S8192x1 .f32 := Host.exp v19
  let cst_3 : FVec F S_ .f32 := constant S_ .f32 0x46000000#32
  let v21 : FVec F S8192x1 .f32 := broadcastInDim S8192x1 ![] bcast_S_S8192x1 cst_3
  let v22 : FVec F S8192x1 .f32 := mulf v21 v20
  let cst_4 : FVec F S_ .f32 := constant S_ .f32 0x3ECC422A#32
  let v23 : FVec F S8192x1 .f32 := broadcastInDim S8192x1 ![] bcast_S_S8192x1 cst_4
  let v24 : FVec F S8192x1 .f32 := mulf v22 v23
  let v25 : FVec F S8192x1 .f32 := Host.divf v24 arg2
  let cst_5 : FVec F S_ .f32 := constant S_ .f32 0x41F80000#32
  let v26 : FVec F S8192x1 .f32 := broadcastInDim S8192x1 ![] bcast_S_S8192x1 cst_5
  let v27 : FVec F S8192x1 .f32 := subf v6 v26
  let cst_6 : FVec F S_ .f32 := constant S_ .f32 0x3A83126F#32
  let v28 : FVec F S8192x1 .f32 := broadcastInDim S8192x1 ![] bcast_S_S8192x1 cst_6
  let v29 : FVec F S8192x1 .f32 := maximumf v25 v28
  let v30 : FVec F S8192x1 .f32 := Host.divf v27 v29
  let v31 : FVec F S8192x1 .f32 := addf v5 v30
  let v32 : FVec F S8192x1 .f32 := subf v13 v10
  let cst_7 : FVec F S_ .f32 := constant S_ .f32 0x41F80000#32
  let v33 : FVec F S8192x1 .f32 := broadcastInDim S8192x1 ![] bcast_S_S8192x1 cst_7
  let v34 : FVec F S8192x1 .f32 := subf v11 v33
  let cst_8 : FVec F S_ .f32 := constant S_ .f32 0x3F000000#32
  let v35 : FVec F S8192x1 .f32 := broadcastInDim S8192x1 ![] bcast_S_S8192x1 cst_8
  let v36 : FVec F S8192x1 .f32 := addf v34 v35
  let v37 : FVec F S8192x1 .f32 := subf v11 v14
  fn_probe_part2 (F := F) v10 v11 v13 v14 v31 v32 v36 v37

def fn_probe {F : FTy → Type} [FloatOps F] (arg0 : FVec F S8192x8192 .f32) (arg1 : FVec F S8192x1 .f32) (arg2 : FVec F S8192x1 .f32) (arg3 : FVec F S8192x1 .f32) (arg4 : FVec F S8192x1 .f32) (arg5 : FVec F S8192x1 .f32) (arg6 : FVec F S8192x1 .f32) (arg7 : FVec F S8192x1 .f32) : FVec F S8192x1 .f32 × FVec F S8192x1 .f32 × FVec F S8192x1 .f32 × FVec F S8192x1 .f32 × FVec F S8192x1 .f32 :=
  let cst : FVec F S_ .f32 := constant S_ .f32 0x3089705F#32
  let v0 : FVec F S8192x1 .f32 := broadcastInDim S8192x1 ![] bcast_S_S8192x1 cst
  let v1 : FVec F S8192x1 .f32 := subf arg5 v0
  let cst_0 : FVec F S_ .f32 := constant S_ .f32 0x3089705F#32
  let v2 : FVec F S8192x1 .f32 := broadcastInDim S8192x1 ![] bcast_S_S8192x1 cst_0
  let v3 : FVec F S8192x1 .f32 := addf arg3 v2
  let v4 : FVec F S8192x1 .f32 := maximumf v3 arg7
  let v5 : FVec F S8192x1 .f32 := minimumf v1 v4
  let v6 : FVec F S8192x1 .f32 := fn_count_from (F := F) arg0 v5
  let cst_1 : FVec F S_ .f32 := constant S_ .f32 0x41F80000#32
  let v7 : FVec F S8192x1 .f32 := broadcastInDim S8192x1 ![] bcast_S_S8192x1 cst_1
  let v8 : IVec S8192x1 1 := cmpf .oge v6 v7
  let v9 : FVec F S8192x1 .f32 := maximumf arg3 v5
  let v10 : FVec F S8192x1 .f32 := fn_where (F := F) v8 v9 arg3
  let v11 : FVec F S8192x1 .f32 := fn_where (F := F) v8 v6 arg4
  let v12 : FVec F S8192x1 .f32 := minimumf arg5 v5
  let v13 : FVec F S8192x1 .f32 := fn_where (F := F) v8 arg5 v12
  let v14 : FVec F S8192x1 .f32 := fn_where (F := F) v8 arg6 v6
  let v15 : FVec F S8192x1 .f32 := subf v5 arg1
  let v16 : FVec F S8192x1 .f32 := Host.divf v15 arg2
  let cst_2 : FVec F S_ .f32 := constant S_ .f32 0xBF000000#32
  let v17 : FVec F S8192x1 .f32 := broadcastInDim S8192x1 ![] bcast_S_S8192x1 cst_2
  let v18 : FVec F S8192x1 .f32 := mulf v17 v16
  let v19 : FVec F S8192x1 .f32 := mulf v18 v16
  fn_probe_part1 (F := F) arg2 v5 v6 v10 v11 v13 v14 v19

def fn_landed_part1 {F : FTy → Type} [FloatOps F] (arg2 : FVec F S8192x1 .f32) (v4 : IVec S8192x1 1) (v15 : IVec S8192x1 1) (v17 : IVec S8192x1 1) (v19 : IVec S8192x1 1) : IVec S8192x1 1 :=
  let v20 : IVec S8192x1 1 := ori v17 v19
  let cst_1 : FVec F S_ .f32 := constant S_ .f32 0x41F80000#32
  let v21 : FVec F S8192x1 .f32 := broadcastInDim S8192x1 ![] bcast_S_S8192x1 cst_1
  let v22 : IVec S8192x1 1 := cmpf .oeq arg2 v21
  let v23 : IVec S8192x1 1 := andi v20 v15
  let v24 : IVec S8192x1 1 := ori v22 v23
  let v25 : IVec S8192x1 1 := andi v4 v24
  v25

def fn_landed {F : FTy → Type} [FloatOps F] (arg0 : FVec F S8192x8192 .f32) (arg1 : FVec F S8192x1 .f32) (arg2 : FVec F S8192x1 .f32) (arg3 : FVec F S8192x1 .f32) (arg4 : FVec F S8192x1 .f32) : IVec S8192x1 1 :=
  let v0 : FVec F S8192x1 .f32 := fn_count_from (F := F) arg0 arg1
  let v1 : IVec S8192x1 1 := cmpf .oeq arg2 v0
  let v2 : FVec F S8192x1 .f32 := fn_count_from (F := F) arg0 arg3
  let v3 : IVec S8192x1 1 := cmpf .oeq arg4 v2
  let v4 : IVec S8192x1 1 := andi v1 v3
  let values : FVec F S8192x33 .f32 := (fun x => (Host.topK S8192x33 1 (FloatOps.cmpfTotal .gt) x sliceFits_S8192x8192_S8192x33).1) arg0
  let indices : IVec S8192x33 32 := (fun x => (Host.topK S8192x33 1 (FloatOps.cmpfTotal .gt) x sliceFits_S8192x8192_S8192x33).2) arg0
  let v5 : FVec F S8192x1 .f32 := (extractStridedSlice S8192x1 ![0, 29] · slices_S8192x33_S8192x1_0_29) values
  let v6 : FVec F S8192x1 .f32 := (extractStridedSlice S8192x1 ![0, 30] · slices_S8192x33_S8192x1_0_30) values
  let v7 : IVec S8192x1 1 := cmpf .ogt v5 v6
  let v8 : FVec F S8192x1 .f32 := (extractStridedSlice S8192x1 ![0, 30] · slices_S8192x33_S8192x1_0_30) values
  let v9 : FVec F S8192x1 .f32 := (extractStridedSlice S8192x1 ![0, 31] · slices_S8192x33_S8192x1_0_31) values
  let v10 : IVec S8192x1 1 := cmpf .ogt v8 v9
  let v11 : IVec S8192x1 1 := andi v7 v10
  let v12 : FVec F S8192x1 .f32 := (extractStridedSlice S8192x1 ![0, 31] · slices_S8192x33_S8192x1_0_31) values
  let v13 : FVec F S8192x1 .f32 := (extractStridedSlice S8192x1 ![0, 32] · slices_S8192x33_S8192x1_0_32) values
  let v14 : IVec S8192x1 1 := cmpf .ogt v12 v13
  let v15 : IVec S8192x1 1 := andi v11 v14
  let cst : FVec F S_ .f32 := constant S_ .f32 0x42040000#32
  let v16 : FVec F S8192x1 .f32 := broadcastInDim S8192x1 ![] bcast_S_S8192x1 cst
  let v17 : IVec S8192x1 1 := cmpf .ole arg2 v16
  let cst_0 : FVec F S_ .f32 := constant S_ .f32 0x41E80000#32
  let v18 : FVec F S8192x1 .f32 := broadcastInDim S8192x1 ![] bcast_S_S8192x1 cst_0
  let v19 : IVec S8192x1 1 := cmpf .oge arg4 v18
  fn_landed_part1 (F := F) arg2 v4 v15 v17 v19

def fn_part3 {F : FTy → Type} [FloatOps F] (main_v6 : IVec S1024x1024 1) (main_v7 : IVec S1024x1024 1) (main_v8 : FVec F S8192x8192 .f32) (main_v12 : FVec F S8192x1 .f32) (main_v22 : FVec F S8192x1 .f32) (main_v35_0 : FVec F S8192x1 .f32) (main_v35_1 : FVec F S8192x1 .f32) (main_v35_2 : FVec F S8192x1 .f32) (main_v35_3 : FVec F S8192x1 .f32) (main_v35_4 : FVec F S8192x1 .f32) (main_v36_0 : FVec F S8192x1 .f32) : IVec S1024x1024 1 × IVec S1024x1024 1 × IVec S8192x1 1 :=
  let main_v36_1 : FVec F S8192x1 .f32 := (fn_probe (F := F) main_v8 main_v12 main_v22 main_v35_0 main_v35_1 main_v35_2 main_v35_3 main_v35_4).2.1
  let main_v36_2 : FVec F S8192x1 .f32 := (fn_probe (F := F) main_v8 main_v12 main_v22 main_v35_0 main_v35_1 main_v35_2 main_v35_3 main_v35_4).2.2.1
  let main_v36_3 : FVec F S8192x1 .f32 := (fn_probe (F := F) main_v8 main_v12 main_v22 main_v35_0 main_v35_1 main_v35_2 main_v35_3 main_v35_4).2.2.2.1
  let main_v36_4 : FVec F S8192x1 .f32 := (fn_probe (F := F) main_v8 main_v12 main_v22 main_v35_0 main_v35_1 main_v35_2 main_v35_3 main_v35_4).2.2.2.2
  let main_v37 : IVec S8192x1 1 := fn_landed (F := F) main_v8 main_v36_0 main_v36_1 main_v36_2 main_v36_3
  (main_v6, main_v7, main_v37)

def fn_part2 {F : FTy → Type} [FloatOps F] (main_v6 : IVec S1024x1024 1) (main_v7 : IVec S1024x1024 1) (main_v8 : FVec F S8192x8192 .f32) (main_v12 : FVec F S8192x1 .f32) (main_v22 : FVec F S8192x1 .f32) (main_v30_0 : FVec F S8192x1 .f32) (main_v30_1 : FVec F S8192x1 .f32) (main_v30_2 : FVec F S8192x1 .f32) (main_v30_3 : FVec F S8192x1 .f32) (main_v30_4 : FVec F S8192x1 .f32) (main_v31_0 : FVec F S8192x1 .f32) (main_v31_1 : FVec F S8192x1 .f32) : IVec S1024x1024 1 × IVec S1024x1024 1 × IVec S8192x1 1 :=
  let main_v31_2 : FVec F S8192x1 .f32 := (fn_probe (F := F) main_v8 main_v12 main_v22 main_v30_0 main_v30_1 main_v30_2 main_v30_3 main_v30_4).2.2.1
  let main_v31_3 : FVec F S8192x1 .f32 := (fn_probe (F := F) main_v8 main_v12 main_v22 main_v30_0 main_v30_1 main_v30_2 main_v30_3 main_v30_4).2.2.2.1
  let main_v31_4 : FVec F S8192x1 .f32 := (fn_probe (F := F) main_v8 main_v12 main_v22 main_v30_0 main_v30_1 main_v30_2 main_v30_3 main_v30_4).2.2.2.2
  let main_v32_0 : FVec F S8192x1 .f32 := (fn_probe (F := F) main_v8 main_v12 main_v22 main_v31_0 main_v31_1 main_v31_2 main_v31_3 main_v31_4).1
  let main_v32_1 : FVec F S8192x1 .f32 := (fn_probe (F := F) main_v8 main_v12 main_v22 main_v31_0 main_v31_1 main_v31_2 main_v31_3 main_v31_4).2.1
  let main_v32_2 : FVec F S8192x1 .f32 := (fn_probe (F := F) main_v8 main_v12 main_v22 main_v31_0 main_v31_1 main_v31_2 main_v31_3 main_v31_4).2.2.1
  let main_v32_3 : FVec F S8192x1 .f32 := (fn_probe (F := F) main_v8 main_v12 main_v22 main_v31_0 main_v31_1 main_v31_2 main_v31_3 main_v31_4).2.2.2.1
  let main_v32_4 : FVec F S8192x1 .f32 := (fn_probe (F := F) main_v8 main_v12 main_v22 main_v31_0 main_v31_1 main_v31_2 main_v31_3 main_v31_4).2.2.2.2
  let main_v33_0 : FVec F S8192x1 .f32 := (fn_probe (F := F) main_v8 main_v12 main_v22 main_v32_0 main_v32_1 main_v32_2 main_v32_3 main_v32_4).1
  let main_v33_1 : FVec F S8192x1 .f32 := (fn_probe (F := F) main_v8 main_v12 main_v22 main_v32_0 main_v32_1 main_v32_2 main_v32_3 main_v32_4).2.1
  let main_v33_2 : FVec F S8192x1 .f32 := (fn_probe (F := F) main_v8 main_v12 main_v22 main_v32_0 main_v32_1 main_v32_2 main_v32_3 main_v32_4).2.2.1
  let main_v33_3 : FVec F S8192x1 .f32 := (fn_probe (F := F) main_v8 main_v12 main_v22 main_v32_0 main_v32_1 main_v32_2 main_v32_3 main_v32_4).2.2.2.1
  let main_v33_4 : FVec F S8192x1 .f32 := (fn_probe (F := F) main_v8 main_v12 main_v22 main_v32_0 main_v32_1 main_v32_2 main_v32_3 main_v32_4).2.2.2.2
  let main_v34_0 : FVec F S8192x1 .f32 := (fn_probe (F := F) main_v8 main_v12 main_v22 main_v33_0 main_v33_1 main_v33_2 main_v33_3 main_v33_4).1
  let main_v34_1 : FVec F S8192x1 .f32 := (fn_probe (F := F) main_v8 main_v12 main_v22 main_v33_0 main_v33_1 main_v33_2 main_v33_3 main_v33_4).2.1
  let main_v34_2 : FVec F S8192x1 .f32 := (fn_probe (F := F) main_v8 main_v12 main_v22 main_v33_0 main_v33_1 main_v33_2 main_v33_3 main_v33_4).2.2.1
  let main_v34_3 : FVec F S8192x1 .f32 := (fn_probe (F := F) main_v8 main_v12 main_v22 main_v33_0 main_v33_1 main_v33_2 main_v33_3 main_v33_4).2.2.2.1
  let main_v34_4 : FVec F S8192x1 .f32 := (fn_probe (F := F) main_v8 main_v12 main_v22 main_v33_0 main_v33_1 main_v33_2 main_v33_3 main_v33_4).2.2.2.2
  let main_v35_0 : FVec F S8192x1 .f32 := (fn_probe (F := F) main_v8 main_v12 main_v22 main_v34_0 main_v34_1 main_v34_2 main_v34_3 main_v34_4).1
  let main_v35_1 : FVec F S8192x1 .f32 := (fn_probe (F := F) main_v8 main_v12 main_v22 main_v34_0 main_v34_1 main_v34_2 main_v34_3 main_v34_4).2.1
  let main_v35_2 : FVec F S8192x1 .f32 := (fn_probe (F := F) main_v8 main_v12 main_v22 main_v34_0 main_v34_1 main_v34_2 main_v34_3 main_v34_4).2.2.1
  let main_v35_3 : FVec F S8192x1 .f32 := (fn_probe (F := F) main_v8 main_v12 main_v22 main_v34_0 main_v34_1 main_v34_2 main_v34_3 main_v34_4).2.2.2.1
  let main_v35_4 : FVec F S8192x1 .f32 := (fn_probe (F := F) main_v8 main_v12 main_v22 main_v34_0 main_v34_1 main_v34_2 main_v34_3 main_v34_4).2.2.2.2
  let main_v36_0 : FVec F S8192x1 .f32 := (fn_probe (F := F) main_v8 main_v12 main_v22 main_v35_0 main_v35_1 main_v35_2 main_v35_3 main_v35_4).1
  fn_part3 (F := F) main_v6 main_v7 main_v8 main_v12 main_v22 main_v35_0 main_v35_1 main_v35_2 main_v35_3 main_v35_4 main_v36_0

def fn_part1 {F : FTy → Type} [FloatOps F] (main_v6 : IVec S1024x1024 1) (main_v7 : IVec S1024x1024 1) (main_v8 : FVec F S8192x8192 .f32) (main_v12 : FVec F S8192x1 .f32) (main_v17 : FVec F S8192x1 .f32) (main_v18 : FVec F S8192x1 .f32) : IVec S1024x1024 1 × IVec S1024x1024 1 × IVec S8192x1 1 :=
  let main_v19 : FVec F S8192x1 .f32 := subf main_v17 main_v18
  let main_cst_3 : FVec F S_ .f32 := constant S_ .f32 0x2B8CBCCC#32
  let main_v20 : FVec F S8192x1 .f32 := broadcastInDim S8192x1 ![] bcast_S_S8192x1 main_cst_3
  let main_v21 : FVec F S8192x1 .f32 := maximumf main_v19 main_v20
  let main_v22 : FVec F S8192x1 .f32 := Host.sqrt main_v21
  let main_cst_4 : FVec F S_ .f32 := constant S_ .f32 0xBF8147AE#32
  let main_v23 : FVec F S8192x1 .f32 := broadcastInDim S8192x1 ![] bcast_S_S8192x1 main_cst_4
  let main_cst_5 : FVec F S_ .f32 := constant S_ .f32 0x3F8147AE#32
  let main_v24 : FVec F S8192x1 .f32 := broadcastInDim S8192x1 ![] bcast_S_S8192x1 main_cst_5
  let main_cst_6 : FVec F S_ .f32 := constant S_ .f32 0x46000000#32
  let main_v25 : FVec F S8192x1 .f32 := broadcastInDim S8192x1 ![] bcast_S_S8192x1 main_cst_6
  let main_cst_7 : FVec F S_ .f32 := constant S_ .f32 0x00000000#32
  let main_v26 : FVec F S8192x1 .f32 := broadcastInDim S8192x1 ![] bcast_S_S8192x1 main_cst_7
  let main_cst_8 : FVec F S_ .f32 := constant S_ .f32 0x402A9FBE#32
  let main_v27 : FVec F S8192x1 .f32 := broadcastInDim S8192x1 ![] bcast_S_S8192x1 main_cst_8
  let main_v28 : FVec F S8192x1 .f32 := mulf main_v27 main_v22
  let main_v29 : FVec F S8192x1 .f32 := addf main_v12 main_v28
  let main_v30_0 : FVec F S8192x1 .f32 := (fn_probe (F := F) main_v8 main_v12 main_v22 main_v23 main_v25 main_v24 main_v26 main_v29).1
  let main_v30_1 : FVec F S8192x1 .f32 := (fn_probe (F := F) main_v8 main_v12 main_v22 main_v23 main_v25 main_v24 main_v26 main_v29).2.1
  let main_v30_2 : FVec F S8192x1 .f32 := (fn_probe (F := F) main_v8 main_v12 main_v22 main_v23 main_v25 main_v24 main_v26 main_v29).2.2.1
  let main_v30_3 : FVec F S8192x1 .f32 := (fn_probe (F := F) main_v8 main_v12 main_v22 main_v23 main_v25 main_v24 main_v26 main_v29).2.2.2.1
  let main_v30_4 : FVec F S8192x1 .f32 := (fn_probe (F := F) main_v8 main_v12 main_v22 main_v23 main_v25 main_v24 main_v26 main_v29).2.2.2.2
  let main_v31_0 : FVec F S8192x1 .f32 := (fn_probe (F := F) main_v8 main_v12 main_v22 main_v30_0 main_v30_1 main_v30_2 main_v30_3 main_v30_4).1
  let main_v31_1 : FVec F S8192x1 .f32 := (fn_probe (F := F) main_v8 main_v12 main_v22 main_v30_0 main_v30_1 main_v30_2 main_v30_3 main_v30_4).2.1
  fn_part2 (F := F) main_v6 main_v7 main_v8 main_v12 main_v22 main_v30_0 main_v30_1 main_v30_2 main_v30_3 main_v30_4 main_v31_0 main_v31_1

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) : IVec S1024x1024 1 × IVec S1024x1024 1 × IVec S8192x1 1 :=
  let main_v0 : IVec S1024x1024 32 := iotaInDim S1024x1024 32 0
  let main_v1 : IVec S1024x1024 32 := iotaInDim S1024x1024 32 1
  let main_c : IVec S_ 32 := constantI S_ 32 0#32
  let main_v2 : IVec S1024x1024 32 := broadcastInDim S1024x1024 ![] bcast_S_S1024x1024 main_c
  let main_v3 : IVec S1024x1024 32 := addi main_v0 main_v2
  let main_v4 : IVec S1024x1024 1 := cmpi .eq main_v3 main_v1
  let main_v5 : FVec F S1024x1024 .f32 := uitofp .f32 main_v4
  let main_v6 : IVec S1024x1024 1 := cmpf .oeq main_arg1 main_v5
  let main_v7 : IVec S1024x1024 1 := cmpf .oeq main_arg3 main_v5
  let main_v8 : FVec F S8192x8192 .f32 := fn_similarity (F := F) main_arg0 main_arg1 main_arg2 main_arg3 main_arg4
  let main_cst : FVec F S_ .f32 := constant S_ .f32 0x00000000#32
  let main_v9 : FVec F S8192 .f32 := (fun x v => Host.reduceAdd x v reducesTo_S8192x8192_S8192_d1 h_S_) main_v8 main_cst
  let main_v10 : FVec F S8192x1 .f32 := broadcastInDim S8192x1 ![0] bcast_S8192_S8192x1_0 main_v9
  let main_cst_0 : FVec F S_ .f32 := constant S_ .f32 0x46000000#32
  let main_v11 : FVec F S8192x1 .f32 := broadcastInDim S8192x1 ![] bcast_S_S8192x1 main_cst_0
  let main_v12 : FVec F S8192x1 .f32 := Host.divf main_v10 main_v11
  let main_v13 : FVec F S8192x8192 .f32 := mulf main_v8 main_v8
  let main_cst_1 : FVec F S_ .f32 := constant S_ .f32 0x00000000#32
  let main_v14 : FVec F S8192 .f32 := (fun x v => Host.reduceAdd x v reducesTo_S8192x8192_S8192_d1 h_S_) main_v13 main_cst_1
  let main_v15 : FVec F S8192x1 .f32 := broadcastInDim S8192x1 ![0] bcast_S8192_S8192x1_0 main_v14
  let main_cst_2 : FVec F S_ .f32 := constant S_ .f32 0x46000000#32
  let main_v16 : FVec F S8192x1 .f32 := broadcastInDim S8192x1 ![] bcast_S_S8192x1 main_cst_2
  let main_v17 : FVec F S8192x1 .f32 := Host.divf main_v15 main_v16
  let main_v18 : FVec F S8192x1 .f32 := mulf main_v12 main_v12
  fn_part1 (F := F) main_v6 main_v7 main_v8 main_v12 main_v17 main_v18
-- ==== Pre_weights_identity.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) : IVec S1024x1024 1 × IVec S1024x1024 1 :=
  let main_v0 : IVec S1024x1024 32 := iotaInDim S1024x1024 32 0
  let main_v1 : IVec S1024x1024 32 := iotaInDim S1024x1024 32 1
  let main_c : IVec S_ 32 := constantI S_ 32 0#32
  let main_v2 : IVec S1024x1024 32 := broadcastInDim S1024x1024 ![] bcast_S_S1024x1024 main_c
  let main_v3 : IVec S1024x1024 32 := addi main_v0 main_v2
  let main_v4 : IVec S1024x1024 1 := cmpi .eq main_v3 main_v1
  let main_v5 : FVec F S1024x1024 .f32 := uitofp .f32 main_v4
  let main_v6 : IVec S1024x1024 1 := cmpf .oeq main_arg1 main_v5
  let main_v7 : IVec S1024x1024 1 := cmpf .oeq main_arg3 main_v5
  (main_v6, main_v7)
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S512x1024 : Shape := ⟨2, ![512, 1024]⟩
abbrev S512 : Shape := ⟨1, ![512]⟩
abbrev S512x1 : Shape := ⟨2, ![512, 1]⟩
abbrev S256x1024 : Shape := ⟨2, ![256, 1024]⟩
abbrev S256x8192 : Shape := ⟨2, ![256, 8192]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S1024x8192, .bf16⟩
  | .hbm, ⟨9, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x8192, .bf16⟩
  | .local _ .vmem, ⟨9, _⟩ => ⟨S256x8192, .f32⟩
  | .local _ .vmem, ⟨10, _⟩ => ⟨S256x8192, .f32⟩
  | .local _ .vmem, ⟨11, _⟩ => ⟨S256x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x8192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x31 : Shape := ⟨2, ![8192, 31]⟩
abbrev S8192x31x1 : Shape := ⟨3, ![8192, 31, 1]⟩
abbrev S8192x31x2 : Shape := ⟨3, ![8192, 31, 2]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1024x8192, .f32⟩
  | .hbm, ⟨29, _⟩ => ⟨S8192x8192, .f32⟩
  | .hbm, ⟨30, _⟩ => ⟨S8192x31, .f32⟩
  | .hbm, ⟨31, _⟩ => ⟨S8192x31, .i32⟩
  | .hbm, ⟨32, _⟩ => ⟨S_, .f32⟩
  | .hbm, ⟨33, _⟩ => ⟨S8192x8192, .f32⟩
  | .hbm, ⟨34, _⟩ => ⟨S8192, .i32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S_, .i32⟩
  | .hbm, ⟨44, _⟩ => ⟨S8192x31, .i32⟩
  | .hbm, ⟨45, _⟩ => ⟨S8192x31, .i1⟩
  | .hbm, ⟨46, _⟩ => ⟨S_, .i32⟩
  | .hbm, ⟨47, _⟩ => ⟨S8192x31, .i32⟩
  | .hbm, ⟨48, _⟩ => ⟨S8192x31, .i32⟩
  | .hbm, ⟨49, _⟩ => ⟨S8192x31, .i32⟩
  | .hbm, ⟨50, _⟩ => ⟨S8192x31, .i32⟩
  | .hbm, ⟨51, _⟩ => ⟨S8192x31x1, .i32⟩
  | .hbm, ⟨52, _⟩ => ⟨S8192x31x1, .i32⟩
  | .hbm, ⟨53, _⟩ => ⟨S8192x31x2, .i32⟩
  | .hbm, ⟨54, _⟩ => ⟨S_, .f32⟩
  | .hbm, ⟨55, _⟩ => ⟨S8192x31, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_values : Ref sig .tc := ⟨.hbm, 30, rfl⟩
abbrev main_indices : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Search.lean ====
/-
  The search that the second kernel runs on each row, as mathematics on one row of extended reals: a bracket narrowed
  by probes, two rounds of extraction from either end, and the entries that are left standing.
-/
module

public import Idealize.ShloMosaic.Lib.Pointwise
public import Idealize.ShloMosaic.PureOps.Ideal.Laws

@[expose] public section

noncomputable section

open Idealize.ShloMosaic

namespace Cert.TopK

/-- The extended real that a 32-bit float word names. -/
def num (b : BitVec 32) : EReal := FloatOps.ofBits (F := Ideal) .f32 b

/-- `x ≥ y`, `x ≤ y` as one-bit words, as the programs compare. -/
def geBit (x y : EReal) : BitVec 1 := FloatOps.cmpf (F := Ideal) (φ := .f32) .oge x y
def leBit (x y : EReal) : BitVec 1 := FloatOps.cmpf (F := Ideal) (φ := .f32) .ole x y

/-- What the search holds of a row between two probes: the two ends, how many entries are at least each, and where to
    probe next. -/
structure Bracket where
  lo : EReal
  clo : EReal
  hi : EReal
  chi : EReal
  t : EReal

/-- How many entries of the row are at least `p`. -/
def atLeast (s : Fin 8192 → EReal) (p : EReal) : EReal := ∑ j, if p ≤ s j then (1 : EReal) else 0

/-- Where the next probe falls: `t`, kept a hair inside the bracket. -/
def place (b : Bracket) : EReal := min (b.hi - num 0x3089705F#32) (max (b.lo + num 0x3089705F#32) b.t)

/-- The next place to probe by the tangent of a normal tail at `p`. -/
def tangent (mean spread p cnt : EReal) : EReal :=
  let z := Ideal.div (p - mean) spread
  let slope := Ideal.div (num 0x46000000#32 * Ideal.exp (num 0xBF000000#32 * z * z) * num 0x3ECC422A#32) spread
  p + Ideal.div (cnt - num 0x41F80000#32) (max slope (num 0x3A83126F#32))

/-- The next place to probe by the chord of the bracket. -/
def chord (lo clo hi chi : EReal) : EReal :=
  lo + (hi - lo) * Ideal.div (clo - num 0x41F80000#32 + num 0x3F000000#32) (clo - chi + num 0x3F800000#32)

/-- Falling back on the middle of the bracket when `t` is not inside it. -/
def inside (lo hi t : EReal) : EReal :=
  Scalar.select (IntOp.ori (leBit t lo) (geBit t hi)) (num 0x3F000000#32 * (lo + hi)) t

/-- The bracket narrowed at `p`, `cnt` entries being at least `p`. -/
def narrow (mean spread : EReal) (b : Bracket) (p cnt : EReal) : Bracket :=
  let enough := geBit cnt (num 0x41F80000#32)
  let lo := Scalar.select enough (max b.lo p) b.lo
  let clo := Scalar.select enough cnt b.clo
  let hi := Scalar.select enough b.hi (min b.hi p)
  let chi := Scalar.select enough b.chi cnt
  ⟨lo, clo, hi, chi, inside lo hi
    (Scalar.select (leBit (clo - chi) (num 0x42800000#32)) (chord lo clo hi chi) (tangent mean spread p cnt))⟩

/-- One probe. -/
def probe (s : Fin 8192 → EReal) (mean spread : EReal) (b : Bracket) : Bracket :=
  narrow mean spread b (place b) (atLeast s (place b))

/-- The row's mean, its spread, and the bracket the search starts from. -/
def mean (s : Fin 8192 → EReal) : EReal := Ideal.div (∑ j, s j) (num 0x46000000#32)
def spread (s : Fin 8192 → EReal) : EReal :=
  Ideal.sqrt (max (Ideal.div (∑ j, s j * s j) (num 0x46000000#32) - mean s * mean s) (num 0x2B8CBCCC#32))
def start (s : Fin 8192 → EReal) : Bracket :=
  ⟨num 0xBF8147AE#32, num 0x46000000#32, num 0x3F8147AE#32, num 0x00000000#32, mean s + num 0x402A9FBE#32 * spread s⟩

/-- The bracket after `n` probes. -/
def probed (s : Fin 8192 → EReal) : Nat → Bracket
  | 0 => start s
  | n + 1 => probe s (mean s) (spread s) (probed s n)

/-! ## Extraction -/

/-- What the extraction holds of a row: the two ends and their counts, and the bound `x` that entries must exceed. -/
structure Ends where
  lo : EReal
  clo : EReal
  hi : EReal
  chi : EReal
  x : EReal

/-- The greatest entry under `hi` (at least the filler `-2`). -/
def below (s : Fin 8192 → EReal) (hi : EReal) : EReal := Finset.univ.sup fun j => if s j < hi then s j else num 0xC0000000#32

/-- The least entry that is at least `lo` and above `x` (at most the filler `2`). -/
def above (s : Fin 8192 → EReal) (lo x : EReal) : EReal :=
  Finset.univ.inf fun j => if lo ≤ s j ∧ x < s j then s j else num 0x40000000#32

/-- One step from the upper end. -/
def stepHi (s : Fin 8192 → EReal) (e : Ends) : Ends :=
  let m := below s e.hi
  let lo := if e.clo ≠ num 0x41F80000#32 ∧ e.chi = num 0x41F00000#32 then m else e.lo
  let clo := if e.clo ≠ num 0x41F80000#32 ∧ e.chi = num 0x41F00000#32 then num 0x41F80000#32 else e.clo
  ⟨lo, clo,
    if (e.clo ≠ num 0x41F80000#32 ∧ e.chi < num 0x41F00000#32) ∧ lo < m then m else e.hi,
    if (e.clo ≠ num 0x41F80000#32 ∧ e.chi < num 0x41F00000#32) ∧ lo < m then e.chi + num 0x3F800000#32 else e.chi, e.x⟩

/-- One step from the lower end. -/
def stepLo (s : Fin 8192 → EReal) (e : Ends) : Ends :=
  ⟨e.lo, if num 0x41F80000#32 < e.clo then e.clo - num 0x3F800000#32 else e.clo, e.hi, e.chi,
    if num 0x41F80000#32 < e.clo then above s e.lo e.x else e.x⟩

/-- What is left of entry `v` at the end. -/
def left (e : Ends) (v : EReal) : EReal := if e.lo ≤ v ∧ max e.x (num 0x00000000#32) < v then v else num 0x00000000#32

/-- The extraction's start from a bracket. -/
def ends (b : Bracket) : Ends := ⟨b.lo, b.clo, b.hi, b.chi, num 0xC0000000#32⟩

/-- The two rounds. -/
def extracted (s : Fin 8192 → EReal) (b : Bracket) : Ends :=
  stepLo s (stepHi s (stepLo s (stepHi s (ends b))))

/-- The row the search leaves. -/
def found (s : Fin 8192 → EReal) (j : Fin 8192) : EReal := left (extracted s (probed s 7)) (s j)

/-! ## One-bit words as propositions -/

theorem geBit_eq (x y : EReal) : geBit x y = BitVec.ofBool (decide (y ≤ x)) := rfl
theorem leBit_eq (x y : EReal) : leBit x y = BitVec.ofBool (decide (x ≤ y)) := rfl

theorem select_bit {α : Type} (p : Prop) [Decidable p] (a b : α) :
    Scalar.select (BitVec.ofBool (decide p)) a b = if p then a else b := by
  by_cases h : p <;> simp [h, Scalar.select]

theorem and_bit (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem or_bit (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

theorem bit_one (p : Prop) [Decidable p] : BitVec.ofBool (decide p) = 1#1 ↔ p := by
  by_cases h : p <;> simp [h]

/-! ## The steps as the program writes them, on one-bit words -/

/-- `FloatOps.cmpf` at the extended reals. -/
def cmpBit (c : CmpFPredicate) (x y : EReal) : BitVec 1 := FloatOps.cmpf (F := Ideal) (φ := .f32) c x y

theorem cmpBit_ge (x y : EReal) : cmpBit .oge x y = BitVec.ofBool (decide (y ≤ x)) := rfl
theorem cmpBit_gt (x y : EReal) : cmpBit .ogt x y = BitVec.ofBool (decide (y < x)) := rfl
theorem cmpBit_lt (x y : EReal) : cmpBit .olt x y = BitVec.ofBool (decide (x < y)) := rfl
theorem cmpBit_le (x y : EReal) : cmpBit .ole x y = BitVec.ofBool (decide (x ≤ y)) := rfl
theorem cmpBit_eq (x y : EReal) : cmpBit .oeq x y = BitVec.ofBool (decide (x = y)) := rfl
theorem cmpBit_ne (x y : EReal) : cmpBit .one x y = BitVec.ofBool (decide (x ≠ y)) := rfl

def stepHiBits (m : EReal) (e : Ends) : Ends :=
  let open31 := cmpBit .one e.clo (num 0x41F80000#32)
  let hit := IntOp.andi open31 (cmpBit .oeq e.chi (num 0x41F00000#32))
  let lo := Scalar.select hit m e.lo
  let miss := IntOp.andi (IntOp.andi open31 (cmpBit .olt e.chi (num 0x41F00000#32))) (cmpBit .ogt m lo)
  ⟨lo, Scalar.select hit (num 0x41F80000#32) e.clo, Scalar.select miss m e.hi,
    Scalar.select miss (e.chi + num 0x3F800000#32) e.chi, e.x⟩

theorem stepHiBits_eq (s : Fin 8192 → EReal) (e : Ends) : stepHiBits (below s e.hi) e = stepHi s e := by
  simp only [stepHiBits, stepHi, cmpBit_ne, cmpBit_eq, cmpBit_lt, cmpBit_gt, and_bit, select_bit]

def stepLoBits (mm : EReal) (e : Ends) : Ends :=
  let fix := cmpBit .ogt e.clo (num 0x41F80000#32)
  ⟨e.lo, Scalar.select fix (e.clo - num 0x3F800000#32) e.clo, e.hi, e.chi, Scalar.select fix mm e.x⟩

theorem stepLoBits_eq (s : Fin 8192 → EReal) (e : Ends) : stepLoBits (above s e.lo e.x) e = stepLo s e := by
  simp only [stepLoBits, stepLo, cmpBit_gt, select_bit]

def leftBits (e : Ends) (v : EReal) : EReal :=
  Scalar.select (IntOp.andi (cmpBit .oge v e.lo) (cmpBit .ogt v (max e.x (num 0x00000000#32)))) v (num 0x00000000#32)

theorem leftBits_eq (e : Ends) (v : EReal) : leftBits e v = left e v := by
  simp only [leftBits, left, cmpBit_gt, cmpBit_ge, and_bit, select_bit]

/-! ## The words the search compares with -/

theorem num_zero : num 0x00000000#32 = 0 := Ideal.ofBits_zero_f32
theorem num_one : num 0x3F800000#32 = ((1 : ℝ) : EReal) := by
  simp [num, Ideal.ofBits, Ideal.ieee]; rw [← EReal.coe_mul]; norm_num
theorem num_31 : num 0x41F80000#32 = ((31 : ℝ) : EReal) := by
  simp [num, Ideal.ofBits, Ideal.ieee]; rw [← EReal.coe_mul]; norm_num
theorem num_30 : num 0x41F00000#32 = ((30 : ℝ) : EReal) := by
  simp [num, Ideal.ofBits, Ideal.ieee]; rw [← EReal.coe_mul]; norm_num
theorem num_29 : num 0x41E80000#32 = ((29 : ℝ) : EReal) := by
  simp [num, Ideal.ofBits, Ideal.ieee]; rw [← EReal.coe_mul]; norm_num
theorem num_33 : num 0x42040000#32 = ((33 : ℝ) : EReal) := by
  simp [num, Ideal.ofBits, Ideal.ieee]; rw [← EReal.coe_mul]; norm_num
theorem num_two : num 0x40000000#32 = ((2 : ℝ) : EReal) := by
  simp [num, Ideal.ofBits, Ideal.ieee]; rw [← EReal.coe_mul]; norm_num
theorem num_neg_two : num 0xC0000000#32 = ((-2 : ℝ) : EReal) := by
  simp [num, Ideal.ofBits, Ideal.ieee]; rw [← EReal.coe_mul]; norm_num
theorem num_8192 : num 0x46000000#32 = ((8192 : ℝ) : EReal) := by
  simp [num, Ideal.ofBits, Ideal.ieee]; rw [← EReal.coe_mul]; norm_num
theorem num_top_end : num 0x3F8147AE#32 < ((2 : ℝ) : EReal) := by
  simp [num, Ideal.ofBits, Ideal.ieee]; norm_cast; norm_num
theorem num_low_end : ((-2 : ℝ) : EReal) < num 0xBF8147AE#32 := by
  simp [num, Ideal.ofBits, Ideal.ieee]; norm_cast; norm_num
theorem num_bot : num 0xFF800000#32 = ⊥ := by
  simp [num, Ideal.ofBits, Ideal.ieee]
theorem num_top : num 0x7F800000#32 = ⊤ := by
  simp [num, Ideal.ofBits, Ideal.ieee]

end Cert.TopK

end
-- ==== Proof.Unit.lean ====
/-
  The rows both programs compare: each row of features, shifted, clipped, shifted again and divided by its length; and
  what the two kernel bodies compute of them.
-/
module

public import proofs.«01_k».proof.Proof.Search
public import proofs.«01_k».proof.Proof.Gen.KernelIdeal.Skeleton
public import Idealize.ShloMosaic.Lib.Pointwise
public import Idealize.ShloMosaic.Lib.MatmulPlain

@[expose] public section

noncomputable section

open Idealize.ShloMosaic Idealize.ShloMosaic.TcCoe Idealize.SL.Sem

namespace Cert.TopK

/-- A row before it is scaled: shifted by `b`, clipped at zero, shifted by `d`. -/
def shifted (f b d : Fin 1024 → EReal) (k : Fin 1024) : EReal := max (f k + b k) (num 0x00000000#32) + d k

/-- A row divided by the root of the sum of its squares (at least a hair). -/
def scaled (h : Fin 1024 → EReal) (k : Fin 1024) : EReal :=
  Ideal.div (h k) (max (Ideal.sqrt (∑ l, h l * h l)) (num 0x2B8CBCCC#32))

/-- The row that is compared. -/
def unit (f b d : Fin 1024 → EReal) : Fin 1024 → EReal := scaled (shifted f b d)

/-- The similarity of two rows. -/
def inner (u v : Fin 1024 → EReal) : EReal := ∑ k, u k * v k

end Cert.TopK

namespace Cert.KernelIdeal.TopK

open Cert.KernelIdeal Cert.KernelIdeal.Gen Cert.TopK

/-- The rows of features of one block of the first kernel, and its unscaled rows. -/
abbrev Feats : Type := FVec Ideal S512x1024 .f32
abbrev Line : Type := FVec Ideal S1x1024 .f32

/-- A row spread down a block. -/
theorem line_at (p : Line) (r : Fin 512) (k : Fin 1024) :
    broadcastTo S512x1024 (shapeCast S1x1024 p shapeCasts_S1x1024_S1x1024) broadcasts_S1x1024_S512x1024 (ix2 r k) = p (ix2 (0 : Fin 1) k) := by
  pointwise

theorem lift512_at (r : Fin 512) (k : Fin 1024) : reduces_S512x1024_S512.lift (ix1 r) k = ix2 r k := by
  rw [eq_ix2 (reduces_S512x1024_S512.lift (ix1 r) k)]; rfl

/-- The block before it is scaled. -/
def raised (x : Feats) (b d : Line) : Feats :=
  addf (F := Ideal) (maximumf (addf x (broadcastTo S512x1024 (shapeCast S1x1024 b shapeCasts_S1x1024_S1x1024) broadcasts_S1x1024_S512x1024))
      (broadcast S512x1024 (Scalar.ofBits (F := Ideal) .f32 0x00000000#32)))
    (broadcastTo S512x1024 (shapeCast S1x1024 d shapeCasts_S1x1024_S1x1024) broadcasts_S1x1024_S512x1024)

theorem raised_at (x : Feats) (b d : Line) (r : Fin 512) (k : Fin 1024) :
    raised x b d (ix2 r k) = shifted (fun l => x (ix2 r l)) (fun l => b (ix2 (0 : Fin 1) l)) (fun l => d (ix2 (0 : Fin 1) l)) k := by
  show max (x (ix2 r k) + broadcastTo S512x1024 (shapeCast S1x1024 b shapeCasts_S1x1024_S1x1024) broadcasts_S1x1024_S512x1024 (ix2 r k)) (num 0x00000000#32)
    + broadcastTo S512x1024 (shapeCast S1x1024 d shapeCasts_S1x1024_S1x1024) broadcasts_S1x1024_S512x1024 (ix2 r k) = _
  rw [line_at, line_at]
  rfl

/-- The sums of squares of a block's rows, as a column, and the column spread over the block. -/
def squares (h : Feats) : FVec Ideal S512x1 .f32 :=
  shapeCast S512x1 (multiReduction .add [1] S512 (mulf h h) 0x00000000#32 reduces_S512x1024_S512 (.inl rfl) rfl) shapeCasts_S512_S512x1

theorem cast512_at (v : FVec Ideal S512 .f32) (r : Fin 512) : shapeCast S512x1 v shapeCasts_S512_S512x1 (ix2 r (0 : Fin 1)) = v (ix1 r) := by
  pointwise

theorem squares_at (h : Feats) (r : Fin 512) : squares h (ix2 r (0 : Fin 1)) = ∑ l, h (ix2 r l) * h (ix2 r l) := by
  refine (cast512_at _ r).trans ((Ideal.multiReduction_add_single ..).trans ?_)
  exact Finset.sum_congr rfl fun j _ => congrArg (mulf h h) (lift512_at r j)

theorem column_at (p : FVec Ideal S512x1 .f32) (r : Fin 512) (k : Fin 1024) :
    broadcastTo S512x1024 p broadcasts_S512x1_S512x1024 (ix2 r k) = p (ix2 r (0 : Fin 1)) := by
  pointwise

/-- The lengths of a block's rows. -/
def lengths (h : Feats) : FVec Ideal S512x1 .f32 :=
  maximumf (F := Ideal) (sqrt (squares h)) (broadcast S512x1 (Scalar.ofBits (F := Ideal) .f32 0x2B8CBCCC#32))

theorem pay_eq (x : Feats) (b d : Line) : k0_pay1 (F := Ideal) x b d
    = divf (F := Ideal) (φ := .f32) (raised x b d) (broadcastTo S512x1024 (lengths (raised x b d)) broadcasts_S512x1_S512x1024) := rfl

/-- The first kernel's body: every row of its block, scaled. -/
theorem pay_at (x : Feats) (b d : Line) (r : Fin 512) (k : Fin 1024) :
    k0_pay1 (F := Ideal) x b d (ix2 r k)
      = unit (fun l => x (ix2 r l)) (fun l => b (ix2 (0 : Fin 1) l)) (fun l => d (ix2 (0 : Fin 1) l)) k := by
  rw [pay_eq]
  show Ideal.div (raised x b d (ix2 r k)) (broadcastTo S512x1024 (lengths (raised x b d)) broadcasts_S512x1_S512x1024 (ix2 r k)) = _
  rw [column_at]
  show Ideal.div (raised x b d (ix2 r k)) (max (Ideal.sqrt (squares (raised x b d) (ix2 r (0 : Fin 1)))) (num 0x2B8CBCCC#32)) = _
  rw [squares_at]
  simp only [raised_at]
  rfl

/-- The second kernel's product, entry by entry. -/
theorem product_at (x : FVec Ideal S256x1024 .bf16) (y : FVec Ideal S1024x8192 .bf16) (r : Fin 256) (j : Fin 8192) :
    k1_pay2 (F := Ideal) x y (ix2 r j) = inner (fun k => x (ix2 r k)) (fun k => y (ix2 k j)) := by
  have e : k1_pay2 (F := Ideal) x y = FloatOps.matmul (DotDims.plain 256 1024 8192) none x y (constant (F := Ideal) S256x8192 .f32 0x00000000#32) := by
    have h : k1_pay2 (F := Ideal) x y = shapeCast S256x8192 (FloatOps.matmul (DotDims.plain 256 1024 8192) none
        (shapeCast S256x1024 x shapeCasts_S256x1024_S256x1024) (shapeCast S1024x8192 y shapeCasts_S1024x8192_S1024x8192)
        (constant (F := Ideal) S256x8192 .f32 0x00000000#32)) shapeCasts_S256x8192_S256x8192 := rfl
    rw [h, shapeCast_id, shapeCast_id, shapeCast_id]
  rw [e]
  refine (Ideal.matmul_plain_apply none x y _ r j).trans ?_
  refine (congrArg (· + _) Ideal.ofBits_zero_f32).trans (zero_add _)

end Cert.KernelIdeal.TopK

end
-- ==== Proof.Rows0.lean ====
/-
  The first call's array: every row of features, shifted, clipped, shifted again and scaled.
-/
module

public import proofs.«01_k».proof.Proof.Unit
public import proofs.«01_k».proof.Proof.Gen.KernelIdeal.Frame
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.TopK

open Cert.KernelIdeal Cert.KernelIdeal.Gen Cert.TopK

/-- The contents the call finds. -/
abbrev Found : Type := (c : Dev nD) → (b : Ref sig .tc) → Buf (Elt Ideal) ((c : Thread nD τ).loc b)

variable (V : Found) (c : Dev nD)

/-- The scaled rows, as an array. -/
def unitRows (x : FVec Ideal S8192x1024 .f32) (b d : Line) : FVec Ideal S8192x1024 .bf16 := fun i =>
  unit (fun l => x (ix2 (i 0) l)) (fun l => b (ix2 (0 : Fin 1) l)) (fun l => d (ix2 (0 : Fin 1) l)) (i 1)

theorem flat : (![0, 0] : Fin 2 → Nat) = fun _ => 0 := funext fun a => by fin_cases a <;> rfl

theorem place0_0 : ∀ t : Fin cfg0.N, win0_0.index t (0 : Fin 2) = t.val ∧ win0_0.index t (1 : Fin 2) = 0 := (by decide +kernel : ∀ t : Fin grid0.N, _)
theorem place0_1 : ∀ t : Fin cfg0.N, win0_1.index t (0 : Fin 2) = 0 ∧ win0_1.index t (1 : Fin 2) = 0 := (by decide +kernel : ∀ t : Fin grid0.N, _)
theorem place0_2 : ∀ t : Fin cfg0.N, win0_2.index t (0 : Fin 2) = 0 ∧ win0_2.index t (1 : Fin 2) = 0 := (by decide +kernel : ∀ t : Fin grid0.N, _)
theorem place0_3 : ∀ t : Fin cfg0.N, win0_3.index t (0 : Fin 2) = t.val ∧ win0_3.index t (1 : Fin 2) = 0 := (by decide +kernel : ∀ t : Fin grid0.N, _)

/-- Row `r` of block `t` among all rows. -/
def down512 (t : Fin cfg0.N) (r : Fin 512) : Fin 8192 := ⟨t.val * 512 + r.val, by have h : t.val < 16 := t.isLt; omega⟩

theorem spot0_0 (t : Fin cfg0.N) (r : Fin 512) (k : Fin 1024) : ((cfg0.win 0).blk t).view.emb (ix2 r k) = ix2 (down512 t r) k := by
  obtain ⟨e0, e1⟩ := place0_0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem spot0_1 (t : Fin cfg0.N) (k : Fin 1024) : ((cfg0.win 1).blk t).view.emb (ix2 (0 : Fin 1) k) = ix2 (0 : Fin 1) k := by
  obtain ⟨e0, e1⟩ := place0_1 t
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem spot0_2 (t : Fin cfg0.N) (k : Fin 1024) : ((cfg0.win 2).blk t).view.emb (ix2 (0 : Fin 1) k) = ix2 (0 : Fin 1) k := by
  obtain ⟨e0, e1⟩ := place0_2 t
  funext a; apply Fin.ext
  match a with
  | ⟨0, _⟩ => show win0_2.index t (0 : Fin 2) * 1 + 1 * 0 = 0; omega
  | ⟨1, _⟩ => show win0_2.index t (1 : Fin 2) * 1024 + 1 * k.val = k.val; omega

theorem spot0_3 (t : Fin cfg0.N) (r : Fin 512) (k : Fin 1024) : ((cfg0.win 3).blk t).view.emb (ix2 r k) = ix2 (down512 t r) k := by
  obtain ⟨e0, e1⟩ := place0_3 t
  funext a; apply Fin.ext
  match a with
  | ⟨0, _⟩ => show win0_3.index t (0 : Fin 2) * 512 + 1 * r.val = t.val * 512 + r.val; omega
  | ⟨1, _⟩ => show win0_3.index t (1 : Fin 2) * 1024 + 1 * k.val = k.val; omega

theorem part0_0 (t : Fin cfg0.N) (r : Fin 512) (k : Fin 1024) : iblk0 V c 0 t (ix2 r k) = V c main_arg0 (ix2 (down512 t r) k) :=
  congrArg (V c main_arg0) (spot0_0 t r k)

theorem part0_1 (t : Fin cfg0.N) (k : Fin 1024) : iblk0 V c 1 t (ix2 (0 : Fin 1) k) = V c main_call0_v0 (ix2 (0 : Fin 1) k) :=
  congrArg (V c main_call0_v0) (spot0_1 t k)

theorem part0_2 (t : Fin cfg0.N) (k : Fin 1024) : iblk0 V c 2 t (ix2 (0 : Fin 1) k) = V c main_call0_v1 (ix2 (0 : Fin 1) k) :=
  congrArg (V c main_call0_v1) (spot0_2 t k)

theorem out0_eq (x : Feats) (b d : Line) : out0_3 (F := Ideal) x b d = k0_pay1 (F := Ideal) x b d := by
  unfold out0_3
  rw [View.canon_unit_zero flat, View.ld_unit_zero flat, View.ld_unit_zero flat, View.ld_unit_zero flat]

theorem wrote0 (t : Fin cfg0.N) : (dat0 V c).flushed 3 t
    = ((cfg0.win 3).blk t).view.read (Elt Ideal) (unitRows (V c main_arg0) (V c main_call0_v0) (V c main_call0_v1)) := by
  show (cfg0.win 3).cut (grid0.coords t) ((dat0 V c).after 3 t) = _
  rw [after0_3, out0_eq]
  funext j
  obtain ⟨r, k, rfl⟩ : ∃ (r : Fin 512) (k : Fin 1024), j = ix2 r k := ⟨j 0, j 1, eq_ix2 j⟩
  show k0_pay1 (F := Ideal) (iblk0 V c 0 t) (iblk0 V c 1 t) (iblk0 V c 2 t) (ix2 r k)
    = unitRows (V c main_arg0) (V c main_call0_v0) (V c main_call0_v1) (((cfg0.win 3).blk t).view.emb (ix2 r k))
  rw [spot0_3]
  refine (pay_at _ _ _ r k).trans ?_
  show _ = unit (fun l => V c main_arg0 (ix2 (down512 t r) l)) (fun l => V c main_call0_v0 (ix2 (0 : Fin 1) l)) (fun l => V c main_call0_v1 (ix2 (0 : Fin 1) l)) k
  rw [funext fun l => part0_0 V c t r l, funext fun l => part0_1 V c t l, funext fun l => part0_2 V c t l]

theorem tiled0 (i : S8192x1024.Idx) : ∃ t : Fin cfg0.N, (cfg0.win 3).flush t = true ∧ i ∈ ((cfg0.win 3).blk t).view.set := by
  have h0 : (i 0 : Nat) < 8192 := (i 0).isLt
  obtain ⟨t, ht⟩ : ∃ t : Fin cfg0.N, t.val = (i 0 : Nat) / 512 := ⟨⟨(i 0 : Nat) / 512, by show _ < 16; omega⟩, rfl⟩
  refine ⟨t, flush0_3 _, ?_⟩
  have h := ((cfg0.win 3).blk t).view.emb_mem_set
    (ix2 (⟨(i 0 : Nat) % 512, Nat.mod_lt _ (by decide)⟩ : Fin 512) (⟨(i 1 : Nat), (i 1).isLt⟩ : Fin 1024))
  rw [spot0_3] at h
  have e : i = ix2 (down512 t (⟨(i 0 : Nat) % 512, Nat.mod_lt _ (by decide)⟩ : Fin 512)) (⟨(i 1 : Nat), (i 1).isLt⟩ : Fin 1024) := by
    funext a; apply Fin.ext
    match a with
    | ⟨0, _⟩ => show (i 0 : Nat) = t.val * 512 + (i 0 : Nat) % 512; omega
    | ⟨1, _⟩ => rfl
  exact e ▸ h

/-- The first call's array when it ends. -/
theorem rows_after : (dat0 V c).arrAt 3 cfg0.N = unitRows (V c main_arg0) (V c main_call0_v0) (V c main_call0_v1) :=
  (dat0 V c).arrAt_eq_of_cover 3 _ (fun t _ => wrote0 V c t) tiled0

end Cert.KernelIdeal.TopK

end
-- ==== Proof.BlockBody.lean ====
/-
  What the second kernel body leaves in its output block: the printed payloads composed over the block `S` of
  similarities that the body computes first and reads back from its scratch memory.
-/
module

public import proofs.«01_k».proof.Proof.Gen.KernelIdeal.Frame
public import Idealize.ShloMosaic.Lib.Pipeline.Value

@[expose] public section

noncomputable section

open Idealize.ShloMosaic Idealize.ShloMosaic.TcCoe Idealize.SL.Sem

namespace Cert.KernelIdeal.TopK

open Cert.KernelIdeal Cert.KernelIdeal.Gen

variable {F : FTy → Type} [FloatOps F]

/-- The block the body stores, as a function of the block `S` of similarities: the values its ten parts hand on,
    under the names the printed program gives them. -/
def blockOut (S : Vec F S256x8192 .f32) : Vec F S256x8192 .f32 :=
  let v15 := k1_pay3 S
  let v22 := k1_pay4 S
  let v23 := k1_pay5 (F := F)
  let v24 := k1_pay6 (F := F)
  let v25 := k1_pay7 (F := F)
  let v26 := k1_pay8 (F := F)
  let v27 := k1_pay9 (F := F)
  let v34 := k1_pay10 (F := F)
  let v35 := k1_pay11 S
  let v47 := k1_pay15 v23 v34 v35 S
  let v48 := k1_pay16 v26 v34 v35 S
  let v50 := k1_pay17 v24 v34 v35 S
  let v51 := k1_pay18 v27 v34 v35 S
  let v68 := k1_pay19 v15 v22 v34 v35 S
  let v79 := k1_pay20 v23 v24 v26 v27 v34 v35 S
  let v82 := k1_pay21 v26 v27 v34 v35 S
  let v107 := k1_pay25 v47 v50 v68 v79 v82 S
  let v108 := k1_pay26 v47 v48 v50 v68 v79 v82 S
  let v110 := k1_pay27 v47 v50 v68 v79 v82 S
  let v111 := k1_pay28 v47 v50 v51 v68 v79 v82 S
  let v128 := k1_pay29 v15 v22 v47 v50 v68 v79 v82 S
  let v129 := k1_pay30 (F := F)
  let v156 := k1_pay31 v107 v108 v110 v111 v128 v129
  let v163 := k1_pay32 v107 v108 v110 v111 v128 v129 S
  let v167 := k1_pay34 v107 v108 v110 v111 v128 v129 S
  let v168 := k1_pay35 v107 v108 v110 v111 v128 v129 S
  let v170 := k1_pay36 v107 v108 v110 v111 v128 v129 S
  let v171 := k1_pay37 v107 v108 v110 v111 v128 v129 S
  let v177 := k1_pay38 v15 v22 v107 v108 v110 v111 v128 v129
  let n := Scalar.ofBits (F := F) .f32 0x46000000#32
  let v216 := k1_pay39 v22 v156 v163 v167 v168 v170 v171 v177 n
  let v223 := k1_pay40 v22 v156 v163 v167 v168 v170 v171 v177 n S
  let k := Scalar.ofBits (F := F) .f32 0x41F80000#32
  let v227 := k1_pay42 v167 v216 v223 k
  let v228 := k1_pay43 v168 v223 k
  let v230 := k1_pay44 v170 v216 v223 k
  let v231 := k1_pay45 v171 v223 k
  let v270 := k1_pay46 v15 v22 v167 v168 v170 v171 v216 v223 k
  let v272 := k1_pay47 v167 v216 v223 k
  let v287 := k1_pay51 v227 v230 v270 v272 S
  let v288 := k1_pay52 v228 v230 v270 v272 S
  let v290 := k1_pay53 v230 v270 v272 S
  let v291 := k1_pay54 v230 v231 v270 v272 S
  let v308 := k1_pay55 v15 v22 v230 v270 v272 S
  let v319 := k1_pay56 v227 v228 v230 v231 v270 v272 S
  let v336 := k1_pay57 v287 v288 v290 v291 v308 v319
  let v347 := k1_pay60 v287 v288 v290 v291 v308 v319 S
  let v348 := k1_pay61 v287 v288 v290 v291 v308 v319 S
  let v350 := k1_pay62 v287 v288 v290 v291 v308 v319 S
  let v351 := k1_pay63 v287 v288 v290 v291 v308 v319 S
  let v364 := k1_pay64 v287 v288 v290 v291 v308 v319 S
  let v366 := k1_pay65 v15 v22 v287 v288 v290 v291 v308 v319
  let v407 := k1_pay69 v336 v347 v348 v350 v351 v364 v366 S
  let v408 := k1_pay70 v336 v347 v348 v350 v351 v364 v366 S
  let v410 := k1_pay71 v336 v347 v348 v350 v351 v364 v366 S
  let v411 := k1_pay72 v336 v347 v348 v350 v351 v364 v366 S
  let v413 := k1_pay73 v336 v347 v348 v350 v351 v364 v366 S
  let v424 := k1_pay77 v407 v408 v411 S v413
  let v435 := k1_pay80 v407 v408 v411 S v413
  let v448 := k1_pay82 v25 v407 v408 v411 S v413 S
  let v451 := k1_pay83 v408 v411
  let v456 := k1_pay84 v407 v408 v410 v411 S v413 S
  k1_pay1 v424 v435 v448 v451 v456 S S

theorem zeros : (![0, 0] : Fin 2 → Nat) = fun _ => 0 := funext fun a => by fin_cases a <;> rfl

/-- The body's output block is `blockOut` of the product of its two input blocks. -/
theorem out_block (c : Dev nD) (i : grid1.Coords) (a1 : Memref sig .tc .vmem S256x1024 .bf16) (h1 : a1.IsWhole)
    (a2 : Memref sig .tc .vmem S1024x8192 .bf16) (h2 : a2.IsWhole) (a3 : Memref sig .tc .vmem S256x8192 .f32) (h3 : a3.IsWhole)
    (a4 : Memref sig .tc .vmem S256x8192 .f32) (h4 : a4.IsWhole) (x0 : Vec F S256x1024 .bf16) (x1 : Vec F S1024x8192 .bf16) :
    out1_A_2 c i a1 h1 a2 h2 a3 h3 a4 h4 x0 x1 = blockOut (k1_pay2 x0 x1) := by
  unfold out1_A_2
  rw [View.read_writes_eq_canon _ _ _ (cover1_A_2 c i a1 h1 a2 h2 a3 h3 a4 h4 x0 x1)]
  unfold kernelRun1_A
  dsimp only
  sl_unfold_words
  rw [View.canon_unit_zero zeros]
  simp only [View.readCov_unit_zero (S := S256x8192) _ zeros, View.readAt_eq_ld, h1.read_unread, h2.read_unread,
    View.ld_unit_zero (S := S256x1024) zeros, View.ld_unit_zero (S := S1024x8192) zeros, View.ld_unit_zero (S := S256x8192) zeros]
  rfl

end Cert.KernelIdeal.TopK

end
-- ==== Proof.BlockRow.lean ====
/-
  A row of the second kernel's output block is what the search of `Search` leaves of the same row of similarities.
-/
module

public import proofs.«01_k».proof.Proof.BlockBody
public import proofs.«01_k».proof.Proof.Search
public import Idealize.ShloMosaic.Lib.Pointwise

@[expose] public section

noncomputable section

open Idealize.ShloMosaic Idealize.ShloMosaic.TcCoe Idealize.SL.Sem

namespace Cert.KernelIdeal.TopK

open Cert.KernelIdeal Cert.KernelIdeal.Gen Cert.TopK

/-- A block of similarities, and a column of one number per row. -/
abbrev Block : Type := FVec Ideal S256x8192 .f32
abbrev Col : Type := FVec Ideal S256x1 .f32

/-- Row `r` of a block. -/
def row (S : Block) (r : Fin 256) : Fin 8192 → EReal := fun j => S (ix2 r j)

/-- Where a column keeps the number of row `r`. -/
abbrev at0 (r : Fin 256) : S256x1.Idx := ix2 r (0 : Fin 1)

/-- A column read from a reduced vector: the number of row `r`. -/
theorem cast_at (v : FVec Ideal S256 .f32) (r : Fin 256) : shapeCast S256x1 v shapeCasts_S256_S256x1 (at0 r) = v (ix1 r) := by
  pointwise

/-- A column spread over the block. -/
theorem spread_at (p : Col) (r : Fin 256) (j : Fin 8192) :
    broadcastTo S256x8192 p broadcasts_S256x1_S256x8192 (ix2 r j) = p (at0 r) := by
  pointwise

/-- The index that the reduction along the rows inserts. -/
theorem lift_at (r : Fin 256) (j : Fin 8192) : reduces_S256x8192_S256.lift (ix1 r) j = ix2 r j := by
  rw [eq_ix2 (reduces_S256x8192_S256.lift (ix1 r) j)]; rfl

/-- The sums, maxima and minima of a block's rows, as columns. -/
def sums (v : Block) : Col :=
  shapeCast S256x1 (multiReduction .add [1] S256 v 0x00000000#32 reduces_S256x8192_S256 (.inl rfl) rfl) shapeCasts_S256_S256x1
def tops (v : Block) : Col :=
  shapeCast S256x1 (multiReduction .maximumf [1] S256 v 0xFF800000#32 reduces_S256x8192_S256 (.inl rfl) rfl) shapeCasts_S256_S256x1
def bottoms (v : Block) : Col :=
  shapeCast S256x1 (multiReduction .minimumf [1] S256 v 0x7F800000#32 reduces_S256x8192_S256 (.inl rfl) rfl) shapeCasts_S256_S256x1

theorem sums_at (v : Block) (r : Fin 256) : sums v (at0 r) = ∑ j, row v r j := by
  refine (cast_at _ r).trans ((Ideal.multiReduction_add_single ..).trans ?_)
  exact Finset.sum_congr rfl fun j _ => congrArg v (lift_at r j)

theorem tops_at (v : Block) (r : Fin 256) : tops v (at0 r) = Finset.univ.sup (row v r) := by
  refine (cast_at _ r).trans ((Ideal.multiReduction_maximumf_single ..).trans ?_)
  show Finset.fold max (num 0xFF800000#32) _ _ = _
  rw [num_bot]
  exact Finset.fold_congr fun j _ => congrArg v (lift_at r j)

theorem bottoms_at (v : Block) (r : Fin 256) : bottoms v (at0 r) = Finset.univ.inf (row v r) := by
  refine (cast_at _ r).trans ((multiReduction_minimumf_eq_fold ..).trans ((Shape.Reduces.fold_filter_drop_single ..).trans ?_))
  show Finset.fold min (num 0x7F800000#32) _ _ = _
  rw [num_top]
  exact Finset.fold_congr fun j _ => congrArg v (lift_at r j)

/-- The kernel's count of the entries that are at least `p`. -/
def counts (S : Block) (p : Col) : Col :=
  sums (sitofp (F := Ideal) .f32 (extui 32 (cmpf (F := Ideal) .oge S (broadcastTo S256x8192 p broadcasts_S256x1_S256x8192)) natLt_1_32))

theorem bit_to_real (p : Prop) [Decidable p] :
    (((BitVec.ofBool (decide p)).setWidth 32).toInt : ℝ) = if p then (1 : ℝ) else 0 := by
  by_cases h : p <;> simp [h]

theorem counts_at (S : Block) (p : Col) (r : Fin 256) : counts S p (at0 r) = atLeast (row S r) (p (at0 r)) := by
  unfold counts
  rw [sums_at]
  refine Finset.sum_congr rfl fun j _ => ?_
  show (((((BitVec.ofBool (decide (broadcastTo S256x8192 p broadcasts_S256x1_S256x8192 (ix2 r j) ≤ S (ix2 r j)))).setWidth 32).toInt : ℝ)) : EReal) = _
  rw [spread_at, bit_to_real]
  show _ = if p (at0 r) ≤ S (ix2 r j) then (1 : EReal) else 0
  split_ifs <;> simp

/-- The greatest entries under a bound, and the least entries from `lo` and above `x`. -/
def belows (S : Block) (h : Col) : Col :=
  tops (select (cmpf .olt S (broadcastTo S256x8192 h broadcasts_S256x1_S256x8192)) S (broadcast S256x8192 (Scalar.ofBits (F := Ideal) .f32 0xC0000000#32)))
def aboves (S : Block) (lo x : Col) : Col :=
  bottoms (select (andi (cmpf .oge S (broadcastTo S256x8192 lo broadcasts_S256x1_S256x8192))
    (cmpf .ogt S (broadcastTo S256x8192 x broadcasts_S256x1_S256x8192))) S (broadcast S256x8192 (Scalar.ofBits (F := Ideal) .f32 0x40000000#32)))

theorem belows_at (S : Block) (h : Col) (r : Fin 256) : belows S h (at0 r) = below (row S r) (h (at0 r)) := by
  unfold belows
  rw [tops_at]
  refine Finset.sup_congr rfl fun j _ => ?_
  show Scalar.select (cmpBit .olt (S (ix2 r j)) (broadcastTo S256x8192 h broadcasts_S256x1_S256x8192 (ix2 r j))) (S (ix2 r j)) (num 0xC0000000#32) = _
  rw [spread_at, cmpBit_lt, select_bit]
  rfl

theorem aboves_at (S : Block) (lo x : Col) (r : Fin 256) :
    aboves S lo x (at0 r) = above (row S r) (lo (at0 r)) (x (at0 r)) := by
  unfold aboves
  rw [bottoms_at]
  refine Finset.inf_congr rfl fun j _ => ?_
  show Scalar.select (IntOp.andi (cmpBit .oge (S (ix2 r j)) (broadcastTo S256x8192 lo broadcasts_S256x1_S256x8192 (ix2 r j)))
    (cmpBit .ogt (S (ix2 r j)) (broadcastTo S256x8192 x broadcasts_S256x1_S256x8192 (ix2 r j)))) (S (ix2 r j)) (num 0x40000000#32) = _
  rw [spread_at, spread_at, cmpBit_ge, cmpBit_gt, and_bit, select_bit]
  rfl

/-- One probe: the bracket narrowed at a column that falls where the probe falls, by the kernel's own count. -/
theorem step (S : Block) (r : Fin 256) (mu sd : EReal) (b : Bracket) (p : Col) (hp : p (at0 r) = place b) :
    narrow mu sd b (p (at0 r)) (counts S p (at0 r)) = probe (row S r) mu sd b := by
  rw [counts_at, hp]; rfl

theorem mean_at (S : Block) (r : Fin 256) : k1_pay3 (F := Ideal) S (at0 r) = mean (row S r) :=
  congrArg (fun x => Ideal.div x (num 0x46000000#32)) (sums_at S r)

theorem spread_of (S : Block) (r : Fin 256) : k1_pay4 (F := Ideal) S (at0 r) = spread (row S r) := by
  show Ideal.sqrt (max (Ideal.div (sums (mulf S S) (at0 r)) (num 0x46000000#32) - k1_pay3 (F := Ideal) S (at0 r) * k1_pay3 (F := Ideal) S (at0 r)) (num 0x2B8CBCCC#32)) = _
  rw [sums_at, mean_at]
  rfl

set_option maxRecDepth 20000 in
set_option maxHeartbeats 1600000 in
/-- Entry `(r, j)` of the body's output block is what the search leaves of entry `j` of row `r`. -/
theorem blockOut_at (S : Block) (r : Fin 256) (j : Fin 8192) : blockOut (F := Ideal) S (ix2 r j) = found (row S r) j := by
  obtain ⟨T, hT⟩ : ∃ T, T = blockOut (F := Ideal) S := ⟨_, rfl⟩
  rw [← hT]
  delta blockOut at hT
  extract_lets v15 v22 v23 v24 v25 v26 v27 v34 v35 v47 v48 v50 v51 v68 v79 v82 v107 v108 v110 v111 v128 v129 v156 v163 v167 v168 v170 v171 v177
    n v216 v223 k v227 v228 v230 v231 v270 v272 v287 v288 v290 v291 v308 v319 v336 v347 v348 v350 v351 v364 v366 v407 v408 v410 v411 v413
    v424 v435 v448 v451 v456 at hT
  have hm : v15 (at0 r) = mean (row S r) := mean_at S r
  have hs : v22 (at0 r) = spread (row S r) := spread_of S r
  -- the seven probes
  have e1 : (⟨v47 (at0 r), v48 (at0 r), v50 (at0 r), v51 (at0 r), inside (v47 (at0 r)) (v50 (at0 r))
      (Scalar.select (v82 (at0 r)) (v79 (at0 r)) (v68 (at0 r)))⟩ : Bracket) = probed (row S r) 1 := by
    show _ = probe (row S r) (mean (row S r)) (spread (row S r)) (start (row S r))
    have h := step S r (v15 (at0 r)) (v22 (at0 r)) ⟨v23 (at0 r), v26 (at0 r), v24 (at0 r), v27 (at0 r),
      v15 (at0 r) + num 0x402A9FBE#32 * v22 (at0 r)⟩ (k1_pay12 v34 v35) rfl
    rw [hm, hs] at h
    refine Eq.trans ?_ h
    rw [← hm, ← hs]
    rfl
  have ht2 : v129 (at0 r) = num 0x41F80000#32 := rfl
  clear_value v47 v48 v50 v51 v68 v79 v82
  have e2 : (⟨v107 (at0 r), v108 (at0 r), v110 (at0 r), v111 (at0 r), inside (v107 (at0 r)) (v110 (at0 r))
      (Scalar.select (leBit (v108 (at0 r) - v111 (at0 r)) (num 0x42800000#32))
        (chord (v107 (at0 r)) (v108 (at0 r)) (v110 (at0 r)) (v111 (at0 r))) (v128 (at0 r)))⟩ : Bracket) = probed (row S r) 2 := by
    show _ = probe (row S r) (mean (row S r)) (spread (row S r)) (probed (row S r) 1)
    rw [← e1, ← hm, ← hs, ← step S r _ _ _ (k1_pay22 v47 v50 v68 v79 v82) rfl]
    rfl
  clear_value v107 v108 v110 v111 v128
  have e3 : (⟨v167 (at0 r), v168 (at0 r), v170 (at0 r), v171 (at0 r), inside (v167 (at0 r)) (v170 (at0 r))
      (Scalar.select (leBit (v168 (at0 r) - v171 (at0 r)) (num 0x42800000#32))
        (chord (v167 (at0 r)) (v168 (at0 r)) (v170 (at0 r)) (v171 (at0 r)))
        (v156 (at0 r) + Ideal.div (v163 (at0 r) - num 0x41F80000#32)
          (max (Ideal.div (n * v177 (at0 r) * num 0x3ECC422A#32) (v22 (at0 r))) (num 0x3A83126F#32))))⟩ : Bracket) = probed (row S r) 3 := by
    show _ = probe (row S r) (mean (row S r)) (spread (row S r)) (probed (row S r) 2)
    rw [← e2, ← hm, ← hs, ← step S r _ _ _ v156 rfl]
    rfl
  clear_value v156 v163 v167 v168 v170 v171 v177
  have e4 : (⟨v227 (at0 r), v228 (at0 r), v230 (at0 r), v231 (at0 r), v270 (at0 r)⟩ : Bracket) = probed (row S r) 4 := by
    show _ = probe (row S r) (mean (row S r)) (spread (row S r)) (probed (row S r) 3)
    rw [← e3, ← hm, ← hs, ← step S r _ _ _ v216 rfl]
    rfl
  have h272 : v272 (at0 r) = v227 (at0 r) + num 0x3089705F#32 := rfl
  clear_value v216 v223 v227 v228 v230 v231 v270 v272
  have e5 : (⟨v287 (at0 r), v288 (at0 r), v290 (at0 r), v291 (at0 r), inside (v287 (at0 r)) (v290 (at0 r))
      (Scalar.select (leBit (v288 (at0 r) - v291 (at0 r)) (num 0x42800000#32)) (v319 (at0 r)) (v308 (at0 r)))⟩ : Bracket) = probed (row S r) 5 := by
    show _ = probe (row S r) (mean (row S r)) (spread (row S r)) (probed (row S r) 4)
    have hp : k1_pay48 v230 v270 v272 (at0 r) = place ⟨v227 (at0 r), v228 (at0 r), v230 (at0 r), v231 (at0 r), v270 (at0 r)⟩ := by
      show min (v230 (at0 r) - num 0x3089705F#32) (max (v272 (at0 r)) (v270 (at0 r))) = _
      rw [h272]; rfl
    rw [← e4, ← hm, ← hs, ← step S r _ _ _ (k1_pay48 v230 v270 v272) hp]
    rfl
  clear_value v287 v288 v290 v291 v308 v319
  have e6 : (⟨v347 (at0 r), v348 (at0 r), v350 (at0 r), v351 (at0 r), inside (v347 (at0 r)) (v350 (at0 r))
      (Scalar.select (leBit (v348 (at0 r) - v351 (at0 r)) (num 0x42800000#32))
        (chord (v347 (at0 r)) (v348 (at0 r)) (v350 (at0 r)) (v351 (at0 r)))
        (v336 (at0 r) + Ideal.div (v364 (at0 r)) (v366 (at0 r))))⟩ : Bracket) = probed (row S r) 6 := by
    show _ = probe (row S r) (mean (row S r)) (spread (row S r)) (probed (row S r) 5)
    rw [← e5, ← hm, ← hs, ← step S r _ _ _ v336 rfl]
    rfl
  clear_value v336 v347 v348 v350 v351 v364 v366
  have e7 : (⟨v407 (at0 r), v408 (at0 r), v410 (at0 r), v411 (at0 r), v25 (at0 r)⟩ : Ends) = ends (probed (row S r) 7) := by
    show _ = ends (probe (row S r) (mean (row S r)) (spread (row S r)) (probed (row S r) 6))
    rw [← e6, ← hm, ← hs, ← step S r _ _ _ (k1_pay66 v336 v347 v348 v350 v351 v364 v366) rfl]
    rfl
  have h413 : v413 = broadcastTo S256x8192 v410 broadcasts_S256x1_S256x8192 := rfl
  clear_value v407 v408 v410 v411 v413
  subst h413
  -- the two rounds of extraction
  have x1 : (⟨v424 (at0 r), k1_pay78 v408 v411 (at0 r), select (k1_pay79 v407 v408 v411 S (broadcastTo S256x8192 v410 broadcasts_S256x1_S256x8192))
      (belows S v410) v410 (at0 r), v435 (at0 r), v25 (at0 r)⟩ : Ends) = stepHi (row S r) (ends (probed (row S r) 7)) := by
    rw [← e7, ← stepHiBits_eq]
    show _ = stepHiBits (below (row S r) (v410 (at0 r))) _
    rw [← belows_at]
    rfl
  have x2 : (⟨v424 (at0 r), v451 (at0 r), select (k1_pay79 v407 v408 v411 S (broadcastTo S256x8192 v410 broadcasts_S256x1_S256x8192))
      (belows S v410) v410 (at0 r), v435 (at0 r), v448 (at0 r)⟩ : Ends) = stepLo (row S r) (stepHi (row S r) (ends (probed (row S r) 7))) := by
    rw [← x1, ← stepLoBits_eq]
    show _ = stepLoBits (above (row S r) (v424 (at0 r)) (v25 (at0 r))) _
    rw [← aboves_at]
    rfl
  have h456 : v456 = select (cmpf .olt S (broadcastTo S256x8192 (select (k1_pay79 v407 v408 v411 S (broadcastTo S256x8192 v410 broadcasts_S256x1_S256x8192))
      (belows S v410) v410) broadcasts_S256x1_S256x8192)) S (broadcast S256x8192 (Scalar.ofBits (F := Ideal) .f32 0xC0000000#32)) := rfl
  clear_value v424 v435 v448 v451 v456
  generalize select (k1_pay79 v407 v408 v411 S (broadcastTo S256x8192 v410 broadcasts_S256x1_S256x8192)) (belows S v410) v410 = hi2 at x2 h456
  subst h456
  subst hT
  generalize hm2 : belows S hi2 = m2
  have x3 := stepHiBits_eq (row S r) ⟨v424 (at0 r), v451 (at0 r), hi2 (at0 r), v435 (at0 r), v448 (at0 r)⟩
  rw [show below (row S r) (Ends.mk (v424 (at0 r)) (v451 (at0 r)) (hi2 (at0 r)) (v435 (at0 r)) (v448 (at0 r))).hi = m2 (at0 r) by
    rw [← hm2, belows_at]] at x3
  unfold found extracted
  rw [← x2, ← x3, ← leftBits_eq, ← stepLoBits_eq]
  obtain ⟨lo2, hlo2⟩ : ∃ lo2 : Col, lo2 = select (andi (cmpf .one v451 (broadcast S256x1 (Scalar.ofBits (F := Ideal) .f32 0x41F80000#32)))
    (cmpf .oeq v435 (broadcast S256x1 (Scalar.ofBits (F := Ideal) .f32 0x41F00000#32)))) m2 v424 := ⟨_, rfl⟩
  rw [show (stepHiBits (m2 (at0 r)) (Ends.mk (v424 (at0 r)) (v451 (at0 r)) (hi2 (at0 r)) (v435 (at0 r)) (v448 (at0 r)))).lo = lo2 (at0 r) by
    rw [hlo2]; rfl]
  show _ = leftBits (stepLoBits (above (row S r) (lo2 (at0 r)) (v448 (at0 r))) _) _
  rw [← aboves_at]
  subst hm2
  obtain ⟨xa, hxa⟩ : ∃ xa : Col, xa = maximumf (select (cmpf .ogt (select (andi (cmpf .one v451 (broadcast S256x1 (Scalar.ofBits (F := Ideal) .f32 0x41F80000#32)))
    (cmpf .oeq v435 (broadcast S256x1 (Scalar.ofBits (F := Ideal) .f32 0x41F00000#32)))) (broadcast S256x1 (Scalar.ofBits (F := Ideal) .f32 0x41F80000#32)) v451)
    (broadcast S256x1 (Scalar.ofBits (F := Ideal) .f32 0x41F80000#32))) (aboves S lo2 v448) v448) (broadcast S256x1 (Scalar.ofBits (F := Ideal) .f32 0x00000000#32)) := ⟨_, rfl⟩
  trans Scalar.select (IntOp.andi (cmpBit .oge (S (ix2 r j)) (broadcastTo S256x8192 lo2 broadcasts_S256x1_S256x8192 (ix2 r j)))
    (cmpBit .ogt (S (ix2 r j)) (broadcastTo S256x8192 xa broadcasts_S256x1_S256x8192 (ix2 r j)))) (S (ix2 r j)) (num 0x00000000#32)
  · rw [hxa, hlo2]; rfl
  · rw [spread_at, spread_at, hxa]
    unfold leftBits
    rw [show (stepLoBits (aboves S lo2 v448 (at0 r)) (stepHiBits (belows S hi2 (at0 r))
      (Ends.mk (v424 (at0 r)) (v451 (at0 r)) (hi2 (at0 r)) (v435 (at0 r)) (v448 (at0 r))))).lo = lo2 (at0 r) by rw [hlo2]; rfl]
    rfl

end Cert.KernelIdeal.TopK

end
-- ==== Proof.Rows1.lean ====
/-
  The second call's array: of every row of inner products, the entries that the search leaves.
-/
module

public import proofs.«01_k».proof.Proof.Unit
public import proofs.«01_k».proof.Proof.BlockRow
public import proofs.«01_k».proof.Proof.Gen.KernelIdeal.Frame
public import Idealize.ShloMosaic.Lib.Pipeline.Value

@[expose] public section

noncomputable section

open Idealize.ShloMosaic Idealize.ShloMosaic.TcCoe Idealize.SL.Sem
open Idealize.ShloMosaic.Pipeline (Dat)

namespace Cert.KernelIdeal.TopK

open Cert.KernelIdeal Cert.KernelIdeal.Gen Cert.TopK

variable (V : (c : Dev nD) → (b : Ref sig .tc) → Buf (Elt Ideal) ((c : Thread nD τ).loc b)) (c : Dev nD)

/-- The entries left of every row of a product. -/
def foundRows (x : FVec Ideal S8192x1024 .bf16) (y : FVec Ideal S1024x8192 .bf16) : FVec Ideal S8192x8192 .f32 := fun i =>
  found (fun j : Fin 8192 => inner (fun k => x (ix2 (i 0) k)) (fun k => y (ix2 k j))) (i 1)

theorem foundRows_at (x : FVec Ideal S8192x1024 .bf16) (y : FVec Ideal S1024x8192 .bf16) (i j : Fin 8192) :
    foundRows x y (ix2 i j) = found (fun j : Fin 8192 => inner (fun k => x (ix2 i k)) (fun k => y (ix2 k j))) j := rfl

theorem place1_0 : ∀ t : Fin cfg1.N, win1_0.index t (0 : Fin 2) = t.val ∧ win1_0.index t (1 : Fin 2) = 0 := (by decide +kernel : ∀ t : Fin grid1.N, _)
theorem place1_1 : ∀ t : Fin cfg1.N, win1_1.index t (0 : Fin 2) = 0 ∧ win1_1.index t (1 : Fin 2) = 0 := (by decide +kernel : ∀ t : Fin grid1.N, _)
theorem place1_2 : ∀ t : Fin cfg1.N, win1_2.index t (0 : Fin 2) = t.val ∧ win1_2.index t (1 : Fin 2) = 0 := (by decide +kernel : ∀ t : Fin grid1.N, _)

/-- Row `r` of block `t` among all rows. -/
def down256 (t : Fin cfg1.N) (r : Fin 256) : Fin 8192 := ⟨t.val * 256 + r.val, by have h : t.val < 32 := t.isLt; omega⟩

theorem spot1_0 (t : Fin cfg1.N) (r : Fin 256) (k : Fin 1024) : ((cfg1.win 0).blk t).view.emb (ix2 r k) = ix2 (down256 t r) k := by
  obtain ⟨e0, e1⟩ := place1_0 t
  funext a; apply Fin.ext
  match a with
  | ⟨0, _⟩ => show win1_0.index t (0 : Fin 2) * 256 + 1 * r.val = t.val * 256 + r.val; omega
  | ⟨1, _⟩ => show win1_0.index t (1 : Fin 2) * 1024 + 1 * k.val = k.val; omega

theorem spot1_1 (t : Fin cfg1.N) (k : Fin 1024) (j : Fin 8192) : ((cfg1.win 1).blk t).view.emb (ix2 k j) = ix2 k j := by
  obtain ⟨e0, e1⟩ := place1_1 t
  funext a; apply Fin.ext
  match a with
  | ⟨0, _⟩ => show win1_1.index t (0 : Fin 2) * 1024 + 1 * k.val = k.val; omega
  | ⟨1, _⟩ => show win1_1.index t (1 : Fin 2) * 8192 + 1 * j.val = j.val; omega

theorem spot1_2 (t : Fin cfg1.N) (r : Fin 256) (j : Fin 8192) : ((cfg1.win 2).blk t).view.emb (ix2 r j) = ix2 (down256 t r) j := by
  obtain ⟨e0, e1⟩ := place1_2 t
  funext a; apply Fin.ext
  match a with
  | ⟨0, _⟩ => show win1_2.index t (0 : Fin 2) * 256 + 1 * r.val = t.val * 256 + r.val; omega
  | ⟨1, _⟩ => show win1_2.index t (1 : Fin 2) * 8192 + 1 * j.val = j.val; omega

theorem part1_0 (t : Fin cfg1.N) (r : Fin 256) (k : Fin 1024) : iblk1 V c 0 t (ix2 r k) = V c main_call0_v2 (ix2 (down256 t r) k) :=
  congrArg (V c main_call0_v2) (spot1_0 t r k)

theorem part1_1 (t : Fin cfg1.N) (k : Fin 1024) (j : Fin 8192) : iblk1 V c 1 t (ix2 k j) = V c main_call0_v3 (ix2 k j) :=
  congrArg (V c main_call0_v3) (spot1_1 t k j)

theorem block_row (x : FVec Ideal S256x1024 .bf16) (y : FVec Ideal S1024x8192 .bf16) (r : Fin 256) :
    row (k1_pay2 (F := Ideal) x y) r = fun j => inner (fun k => x (ix2 r k)) (fun k => y (ix2 k j)) :=
  funext fun j => product_at x y r j

theorem cut_at (t : Fin cfg1.N) (X : FVec Ideal S256x8192 .f32) (r : Fin 256) (j : Fin 8192) :
    (cfg1.win 2).cut (grid1.coords t) X (ix2 r j) = X (ix2 r j) := rfl

theorem read_at (t : Fin cfg1.N) (G : FVec Ideal S8192x8192 .f32) (r : Fin 256) (j : Fin 8192) :
    ((cfg1.win 2).blk t).view.read (Elt Ideal) G (ix2 r j) = G (ix2 (down256 t r) j) := congrArg G (spot1_2 t r j)

theorem wrote1 (t : Fin cfg1.N) : (dat1 V c).flushed 2 t
    = ((cfg1.win 2).blk t).view.read (Elt Ideal) (foundRows (V c main_call0_v2) (V c main_call0_v3)) := by
  show (cfg1.win 2).cut (grid1.coords t) ((dat1 V c).after 2 t) = _
  rw [after1_2]
  unfold outsAt1
  rw [out_block]
  funext j
  obtain ⟨r, k, rfl⟩ : ∃ (r : Fin 256) (k : Fin 8192), j = ix2 r k := ⟨j 0, j 1, eq_ix2 j⟩
  refine (cut_at t _ r k).trans (Eq.trans ?_ ((read_at t _ r k).trans (foundRows_at _ _ _ _)).symm)
  refine (blockOut_at _ r k).trans ?_
  refine (congrArg (fun s => found s k) (block_row _ _ r)).trans ?_
  refine congrArg (fun s => found s k) (funext fun j => ?_)
  exact congrArg₂ inner (funext fun l => part1_0 V c t r l) (funext fun l => part1_1 V c t l j)

theorem tiled1 (i : S8192x8192.Idx) : ∃ t : Fin cfg1.N, (cfg1.win 2).flush t = true ∧ i ∈ ((cfg1.win 2).blk t).view.set := by
  have h0 : (i 0 : Nat) < 8192 := (i 0).isLt
  obtain ⟨t, ht⟩ : ∃ t : Fin cfg1.N, t.val = (i 0 : Nat) / 256 := ⟨⟨(i 0 : Nat) / 256, by show _ < 32; omega⟩, rfl⟩
  refine ⟨t, flush1_2 _, ?_⟩
  have h := ((cfg1.win 2).blk t).view.emb_mem_set
    (ix2 (⟨(i 0 : Nat) % 256, Nat.mod_lt _ (by decide)⟩ : Fin 256) (⟨(i 1 : Nat), (i 1).isLt⟩ : Fin 8192))
  rw [spot1_2] at h
  have e : i = ix2 (down256 t (⟨(i 0 : Nat) % 256, Nat.mod_lt _ (by decide)⟩ : Fin 256)) (⟨(i 1 : Nat), (i 1).isLt⟩ : Fin 8192) := by
    funext a; apply Fin.ext
    match a with
    | ⟨0, _⟩ => show (i 0 : Nat) = t.val * 256 + (i 0 : Nat) % 256; omega
    | ⟨1, _⟩ => rfl
  exact e ▸ h

/-- The second call's array when it ends. -/
theorem found_after : (dat1 V c).arrAt 2 cfg1.N = foundRows (V c main_call0_v2) (V c main_call0_v3) :=
  (dat1 V c).arrAt_eq_of_cover 2 _ (fun t _ => wrote1 V c t) tiled1

end Cert.KernelIdeal.TopK

end
-- ==== Proof.Run.lean ====
/-
  The kernel's run with its result read back: the result array ends at what the second call's write-backs leave.
-/
module

public import proofs.«01_k».proof.Proof.Gen.KernelIdeal.Frame

@[expose] public section

noncomputable section

namespace Cert.KernelIdeal.TopK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the second call's write-backs and the arguments as launched. -/
theorem run : θ_run defs (onTc (τ := τ) (main (F := F))) ⟨m, fun _ => 0, ρ⟩ (fun r => ∀ c : Dev nD,
      r.2.mem ((c.tc : Thread nD τ).loc main_v0) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.TopK

end
-- ==== Proof.PreFacts.lean ====
/-
  The side conditions of the precondition's operations, each a closed statement about literal shapes.
-/
module

public import proofs.«01_k».proof.Pre_search_lands
public import Idealize.ShloMosaic.Lib.Decide

@[expose] public section

namespace Cert.Pre_search_lands.Held

open Idealize.ShloMosaic Cert.Pre_search_lands

/-- The precondition's side conditions hold. -/
instance held : Cert.Pre_search_lands.Facts where
  bcast_S_S1024x1024 := by decide
  transposes_S1024x1024_S1024x1024_1_0 := by decide
  bcast_S1024_S1x1024_1 := by decide
  bcast_S1x1024_S8192x1024_0_1 := by decide
  bcast_S_S8192x1024 := by decide
  reducesTo_S8192x1024_S8192_d1 := by decide
  h_S_ := by decide
  bcast_S8192_S8192x1_0 := by decide
  bcast_S_S8192x1 := by decide
  bcast_S8192x1_S8192x1024_0_1 := by decide
  transposes_S8192x1024_S1024x8192_1_0 := by decide
  reducesTo_S8192x8192_S8192_d1 := by decide
  bcast_S8192x1_S8192x8192_0_1 := by decide
  sliceFits_S8192x8192_S8192x33 := by decide
  slices_S8192x33_S8192x1_0_29 := by decide
  slices_S8192x33_S8192x1_0_30 := by decide
  slices_S8192x33_S8192x1_0_31 := by decide
  slices_S8192x33_S8192x1_0_32 := by decide
  dot_S8192x1024_S1024x1024_S8192x1024_1_0_0_1_n_n_wf := by decide
  dot_S8192x1024_S1024x8192_S8192x8192_1_0_0_1_n_n_wf := by decide

end Cert.Pre_search_lands.Held

end
-- ==== Proof.Order.lean ====
/-
  A row in falling order: the rearrangement that a stable sort by "greater first" takes the row's places from, and the
  top-k of a matrix of extended reals read at one row by it.
-/
module

public import proofs.«01_k».proof.Proof.Search
public import Idealize.ShloMosaic.Lib.SortFacts

@[expose] public section

noncomputable section

open Idealize.ShloMosaic

namespace Cert.TopK

/-- "Greater first" between two places of a row. -/
def before {n : ℕ} (s : Fin n → EReal) (k k' : Fin n) : Bool :=
  FloatOps.cmpfTotal (F := Ideal) (φ := .f32) .gt (s k) (s k') == 1#1

theorem before_iff {n : ℕ} (s : Fin n → EReal) (k k' : Fin n) : before s k k' = true ↔ s k' < s k := by
  show (BitVec.ofBool (decide (s k' < s k)) == 1#1) = true ↔ _
  rw [beq_iff_eq, bit_one]

theorem before_false {n : ℕ} (s : Fin n → EReal) (k k' : Fin n) : before s k k' = false ↔ s k ≤ s k' := by
  rw [← not_iff_not, Bool.not_eq_false, before_iff, not_le]

/-- The places of the row in falling order of their entries. -/
def order {n : ℕ} (s : Fin n → EReal) : Equiv.Perm (Fin n) :=
  Equiv.ofBijective (sortedFrom (before s)) ⟨sortedFrom_injective _, sortedFrom_surjective _⟩

theorem order_apply {n : ℕ} (s : Fin n → EReal) (k : Fin n) : order s k = sortedFrom (before s) k := rfl

theorem order_anti {n : ℕ} (s : Fin n → EReal) : Antitone (s ∘ order s) := by
  intro i j hij
  rcases hij.eq_or_lt with rfl | h
  · exact le_rfl
  · refine (before_false s _ _).mp (sortedFrom_noInversion (before s) (before s) ?_ (fun _ _ h => h) ?_ i j h)
    · intro a b hab
      exact (before_false s b a).mpr ((before_iff s a b).mp hab).le
    · intro a b c hab hbc
      exact (before_false s a c).mpr (((before_false s a b).mp hab).trans ((before_false s b c).mp hbc))

/-- The square matrix of similarities, and one row of it. -/
abbrev Sq (n : ℕ) : Shape := ⟨2, ![n, n]⟩
def rowOf {n : ℕ} (x : FVec Ideal (Sq n) .f32) (i : Fin n) : Fin n → EReal := fun j => x (ix2 i j)

section
variable {n : ℕ}

theorem along_row (i j c : Fin n) : (ix2 i j : (Sq n).Idx).along (1 : Fin 2) c = ix2 i c := by
  rw [eq_ix2 ((ix2 i j : (Sq n).Idx).along (1 : Fin 2) c)]
  rfl

/-- Where a slice of the first `K` columns reads. -/
theorem slice_at {α : Type} {K : Nat} (x : (Sq n).Idx → α) (h : (Sq n).Slices (fun _ => 0) ⟨2, ![n, K]⟩) (i : Fin n) (k : Fin K)
    (hk : k.val < n) :
    extractStridedSlice (⟨2, ![n, K]⟩ : Shape) (fun _ => 0) x h (ix2 i k) = x (ix2 i ⟨k.val, hk⟩) := by
  refine congrArg x ((eq_ix2 _).trans ?_)
  congr 1
  · exact Fin.ext (Nat.zero_add _)
  · exact Fin.ext (Nat.zero_add _)

/-- The comparison of two pairs by their first components. -/
def firstGreater (β : Type) : EReal × β → EReal × β → BitVec 1 :=
  fun l r => FloatOps.cmpfTotal (F := Ideal) (φ := .f32) .gt l.1 r.1

theorem before_along {β : Type} (x : FVec Ideal (Sq n) .f32) (y : (Sq n).Idx → β) (i j : Fin n) :
    (fun k k' : Fin n => firstGreater β (x ((ix2 i j : (Sq n).Idx).along (1 : Fin 2) k), y ((ix2 i j : (Sq n).Idx).along (1 : Fin 2) k))
      (x ((ix2 i j : (Sq n).Idx).along (1 : Fin 2) k'), y ((ix2 i j : (Sq n).Idx).along (1 : Fin 2) k')) == 1#1) = before (rowOf x i) := by
  funext k k'
  rw [along_row, along_row]
  rfl

/-- The sort's source of place `j` of row `i`. -/
theorem sort_at {β : Type} (x : FVec Ideal (Sq n) .f32) (y : (Sq n).Idx → β) (i j : Fin n) :
    (Host.sort2 (Sq n) 1 (firstGreater β) x y).1 (ix2 i j) = x (ix2 i (order (rowOf x i) j)) ∧
      (Host.sort2 (Sq n) 1 (firstGreater β) x y).2 (ix2 i j) = y (ix2 i (order (rowOf x i) j)) := by
  unfold Host.sort2
  rw [dif_pos (show 1 < (Sq n).rank from Nat.one_lt_two)]
  exact ⟨(congrArg (fun B : Fin n → Fin n → Bool => x ((ix2 i j : (Sq n).Idx).along (1 : Fin 2) (sortedFrom B j))) (before_along x y i j)).trans
      (congrArg x (along_row i j _)),
    (congrArg (fun B : Fin n → Fin n → Bool => y ((ix2 i j : (Sq n).Idx).along (1 : Fin 2) (sortedFrom B j))) (before_along x y i j)).trans
      (congrArg y (along_row i j _))⟩

/-- Every place's column, as a 32-bit word. -/
def columns (n : ℕ) : IVec (Sq n) 32 := fun i => if hd : 1 < (Sq n).rank then iotaInDim (Sq n) 32 ⟨1, hd⟩ i else 0#32

theorem columns_at (i j : Fin n) : columns n (ix2 i j) = BitVec.ofNat 32 j.val :=
  dif_pos (show 1 < (Sq n).rank from Nat.one_lt_two)

/-- The `k`-th greatest of row `i`. -/
theorem topK_value {K : Nat} (x : FVec Ideal (Sq n) .f32) (h : (Sq n).Slices (fun _ => 0) ⟨2, ![n, K]⟩) (i : Fin n) (k : Fin K)
    (hk : k.val < n) :
    (Host.topK (⟨2, ![n, K]⟩ : Shape) 1 (FloatOps.cmpfTotal (F := Ideal) (φ := .f32) .gt) x h).1 (ix2 i k)
      = rowOf x i (order (rowOf x i) ⟨k.val, hk⟩) :=
  (slice_at (Host.sort2 (Sq n) 1 (firstGreater (BitVec 32)) x (columns n)).1 h i k hk).trans (sort_at x (columns n) i ⟨k.val, hk⟩).1

/-- The place it stands at, as a 32-bit word. -/
theorem topK_place {K : Nat} (x : FVec Ideal (Sq n) .f32) (h : (Sq n).Slices (fun _ => 0) ⟨2, ![n, K]⟩) (i : Fin n) (k : Fin K)
    (hk : k.val < n) :
    (Host.topK (⟨2, ![n, K]⟩ : Shape) 1 (FloatOps.cmpfTotal (F := Ideal) (φ := .f32) .gt) x h).2 (ix2 i k)
      = BitVec.ofNat 32 (order (rowOf x i) ⟨k.val, hk⟩).val :=
  (slice_at (Host.sort2 (Sq n) 1 (firstGreater (BitVec 32)) x (columns n)).2 h i k hk).trans
    ((sort_at x (columns n) i ⟨k.val, hk⟩).2.trans (columns_at _ _))

end

end Cert.TopK

end
-- ==== Proof.PreProbe.lean ====
/-
  The precondition's probes read at one row: each of its columns keeps, at row `i`, the bracket of `Search`.
-/
module

public import proofs.«01_k».proof.Proof.PreFacts
public import proofs.«01_k».proof.Proof.Order
public import Idealize.ShloMosaic.Lib.Pointwise

@[expose] public section

noncomputable section

open Idealize.ShloMosaic

namespace Cert.Pre_search_lands.TopK

open Cert.Pre_search_lands Cert.Pre_search_lands.Held Cert.TopK Facts

/-- A matrix of similarities, and a column of one number per row. -/
abbrev Sims : Type := FVec Ideal S8192x8192 .f32
abbrev Col : Type := FVec Ideal S8192x1 .f32

/-- Where a column keeps the number of row `i`. -/
abbrev at0 (i : Fin 8192) : S8192x1.Idx := ix2 i (0 : Fin 1)

/-- The sums of a matrix's rows, as a column. -/
def sums (x : Sims) : Col :=
  broadcastInDim S8192x1 ![0] bcast_S8192_S8192x1_0
    (Host.reduceAdd (F := Ideal) x (constant S_ .f32 0x00000000#32) reducesTo_S8192x8192_S8192_d1 h_S_)

theorem sums_at (x : Sims) (i : Fin 8192) : sums x (at0 i) = ∑ j, rowOf x i j := by
  refine (Ideal.hostReduceAdd_r2_a1 _ _ _ _).trans ?_
  refine (congrArg (· + _) (Ideal.ofBits_zero_f32)).trans ((zero_add _).trans ?_)
  rfl

/-- The bits of "at least the row's bound", as numbers. -/
def bits (x : Sims) (b : Col) : Sims :=
  uitofp (F := Ideal) .f32 (cmpf (F := Ideal) .oge x (broadcastInDim S8192x8192 ![0, 1] bcast_S8192x1_S8192x8192_0_1 b))

/-- A column spread over the matrix. -/
theorem spread_at {α : Type} (p : S8192x1.Idx → α) (i j : Fin 8192) :
    broadcastInDim S8192x8192 ![0, 1] bcast_S8192x1_S8192x8192_0_1 p (ix2 i j) = p (at0 i) := by
  pointwise

theorem bit_to_real (p : Prop) [Decidable p] : ((BitVec.ofBool (decide p)).toNat : ℝ) = if p then (1 : ℝ) else 0 := by
  by_cases h : p <;> simp [h]

theorem bits_at (x : Sims) (b : Col) (i j : Fin 8192) :
    rowOf (bits x b) i j = if b (at0 i) ≤ rowOf x i j then (1 : EReal) else 0 := by
  show ((((BitVec.ofBool (decide (broadcastInDim S8192x8192 ![0, 1] bcast_S8192x1_S8192x8192_0_1 b (ix2 i j) ≤ x (ix2 i j)))).toNat : ℝ)) : EReal) = _
  rw [spread_at, bit_to_real]
  show _ = if b (at0 i) ≤ x (ix2 i j) then (1 : EReal) else 0
  split_ifs <;> simp

theorem count_at (x : Sims) (b : Col) (i : Fin 8192) :
    fn_count_from (F := Ideal) x b (at0 i) = atLeast (rowOf x i) (b (at0 i)) := by
  have e : fn_count_from (F := Ideal) x b = sums (bits x b) := by unfold fn_count_from sums bits; rfl
  rw [e, sums_at]
  exact Finset.sum_congr rfl fun j _ => bits_at x b i j

/-- The five columns that a probe takes and gives, and the bracket they keep at a row. -/
abbrev Cols : Type := Col × Col × Col × Col × Col
def bracket (c : Cols) (i : Fin 8192) : Bracket :=
  ⟨c.1 (at0 i), c.2.1 (at0 i), c.2.2.1 (at0 i), c.2.2.2.1 (at0 i), c.2.2.2.2 (at0 i)⟩

/-- One probe, from columns to columns. -/
def next (x : Sims) (mu sd : Col) (c : Cols) : Cols :=
  fn_probe (F := Ideal) x mu sd c.1 c.2.1 c.2.2.1 c.2.2.2.1 c.2.2.2.2

/-- Where the probe falls, as a column. -/
def places (c : Cols) : Col :=
  minimumf (F := Ideal) (subf c.2.2.1 (broadcastInDim S8192x1 ![] bcast_S_S8192x1 (constant (F := Ideal) S_ .f32 0x3089705F#32)))
    (maximumf (addf c.1 (broadcastInDim S8192x1 ![] bcast_S_S8192x1 (constant (F := Ideal) S_ .f32 0x3089705F#32))) c.2.2.2.2)

set_option maxRecDepth 20000 in
theorem next_at (x : Sims) (mu sd : Col) (c : Cols) (i : Fin 8192) :
    bracket (next x mu sd c) i = probe (rowOf x i) (mu (at0 i)) (sd (at0 i)) (bracket c i) := by
  have h : fn_count_from (F := Ideal) x (places c) (at0 i) = atLeast (rowOf x i) (place (bracket c i)) := count_at x (places c) i
  unfold probe
  rw [← h]
  rfl

/-- The mean and the spread of every row, as columns, and the columns the search starts from. -/
def means (x : Sims) : Col :=
  Host.divf (F := Ideal) (sums x) (broadcastInDim S8192x1 ![] bcast_S_S8192x1 (constant (F := Ideal) S_ .f32 0x46000000#32))
def spreads (x : Sims) : Col :=
  Host.sqrt (F := Ideal) (maximumf (subf (Host.divf (sums (mulf x x)) (broadcastInDim S8192x1 ![] bcast_S_S8192x1 (constant (F := Ideal) S_ .f32 0x46000000#32)))
    (mulf (means x) (means x))) (broadcastInDim S8192x1 ![] bcast_S_S8192x1 (constant (F := Ideal) S_ .f32 0x2B8CBCCC#32)))
def starts (x : Sims) : Cols :=
  (broadcastInDim S8192x1 ![] bcast_S_S8192x1 (constant (F := Ideal) S_ .f32 0xBF8147AE#32),
    broadcastInDim S8192x1 ![] bcast_S_S8192x1 (constant (F := Ideal) S_ .f32 0x46000000#32),
    broadcastInDim S8192x1 ![] bcast_S_S8192x1 (constant (F := Ideal) S_ .f32 0x3F8147AE#32),
    broadcastInDim S8192x1 ![] bcast_S_S8192x1 (constant (F := Ideal) S_ .f32 0x00000000#32),
    addf (F := Ideal) (means x) (mulf (broadcastInDim S8192x1 ![] bcast_S_S8192x1 (constant (F := Ideal) S_ .f32 0x402A9FBE#32)) (spreads x)))

theorem means_at (x : Sims) (i : Fin 8192) : means x (at0 i) = mean (rowOf x i) :=
  congrArg (fun y => Ideal.div y (num 0x46000000#32)) (sums_at x i)

theorem spreads_at (x : Sims) (i : Fin 8192) : spreads x (at0 i) = spread (rowOf x i) := by
  show Ideal.sqrt (max (Ideal.div (sums (mulf x x) (at0 i)) (num 0x46000000#32) - means x (at0 i) * means x (at0 i)) (num 0x2B8CBCCC#32)) = _
  rw [sums_at, means_at]
  rfl

theorem starts_at (x : Sims) (i : Fin 8192) : bracket (starts x) i = start (rowOf x i) := by
  show (⟨_, _, _, _, means x (at0 i) + num 0x402A9FBE#32 * spreads x (at0 i)⟩ : Bracket) = _
  rw [means_at, spreads_at]
  rfl

/-- The columns after `n` probes. -/
def columnsAfter (x : Sims) : Nat → Cols
  | 0 => starts x
  | n + 1 => next x (means x) (spreads x) (columnsAfter x n)

theorem columnsAfter_at (x : Sims) (i : Fin 8192) (n : Nat) : bracket (columnsAfter x n) i = probed (rowOf x i) n := by
  induction n with
  | zero => exact starts_at x i
  | succ n ih =>
    refine (next_at x _ _ _ i).trans ?_
    rw [ih, means_at, spreads_at]
    rfl

end Cert.Pre_search_lands.TopK

end
-- ==== Proof.Row.lean ====
/-
  The search on one row finds the row's 31 greatest entries: when the bracket after seven probes is right and near
  enough, what is left standing is exactly the first 31 entries in falling order, those that are positive.
-/
module

public import proofs.«01_k».proof.Proof.Search

@[expose] public section

noncomputable section

open Idealize.ShloMosaic

namespace Cert.TopK

/-! ## Counts as natural numbers -/

/-- A natural number among the extended reals. -/
def nat (n : ℕ) : EReal := ((n : ℝ) : EReal)

theorem nat_inj {a b : ℕ} : nat a = nat b ↔ a = b := by simp [nat]
theorem nat_lt {a b : ℕ} : nat a < nat b ↔ a < b := by simp [nat]
theorem nat_le {a b : ℕ} : nat a ≤ nat b ↔ a ≤ b := by simp [nat]
theorem nat_succ (a : ℕ) : nat a + nat 1 = nat (a + 1) := by simp [nat]
theorem nat_pred (a : ℕ) : nat (a + 1) - nat 1 = nat a := by
  unfold nat; rw [← EReal.coe_sub]; congr 1; push_cast; ring

theorem is_one : num 0x3F800000#32 = nat 1 := by rw [num_one]; simp [nat]
theorem is_29 : num 0x41E80000#32 = nat 29 := by rw [num_29]; simp [nat]
theorem is_30 : num 0x41F00000#32 = nat 30 := by rw [num_30]; simp [nat]
theorem is_31 : num 0x41F80000#32 = nat 31 := by rw [num_31]; simp [nat]
theorem is_33 : num 0x42040000#32 = nat 33 := by rw [num_33]; simp [nat]
theorem is_8192 : num 0x46000000#32 = nat 8192 := by rw [num_8192]; simp [nat]
theorem is_zero : num 0x00000000#32 = nat 0 := by rw [num_zero]; simp [nat]

variable (s : Fin 8192 → EReal)

/-- How many entries are at least `p` is a natural number. -/
theorem atLeast_card (p : EReal) : atLeast s p = nat (Finset.univ.filter fun j => p ≤ s j).card := by
  unfold atLeast nat
  rw [Finset.card_filter]
  push_cast
  induction (Finset.univ : Finset (Fin 8192)) using Finset.induction_on with
  | empty => simp
  | insert a t ha ih =>
    rw [Finset.sum_insert ha, Finset.sum_insert ha, EReal.coe_add, ih]
    congr 1
    split_ifs <;> simp

/-- An initial piece of the places: a decidable set of places that is closed downwards holds exactly those before its
    number. -/
theorem initial (P : Fin 8192 → Prop) [DecidablePred P] (down : ∀ i j, i ≤ j → P j → P i) (i : Fin 8192) :
    P i ↔ i.val < (Finset.univ.filter P).card := by
  constructor
  · intro h
    have : Finset.Iic i ⊆ Finset.univ.filter P := fun j hj => by
      simp only [Finset.mem_filter, Finset.mem_univ, true_and]; exact down j i (Finset.mem_Iic.mp hj) h
    have := Finset.card_le_card this
    rw [Fin.card_Iic] at this; omega
  · intro h
    by_contra hn
    have : Finset.univ.filter P ⊆ Finset.Iio i := fun j hj => by
      simp only [Finset.mem_filter, Finset.mem_univ, true_and] at hj
      refine Finset.mem_Iio.mpr (lt_of_not_ge fun hij => hn (down i j hij hj))
    have := Finset.card_le_card this
    rw [Fin.card_Iio] at this; omega

/-- In falling order, the entries that are at least `p` come first. -/
theorem atLeast_split (σ : Equiv.Perm (Fin 8192)) (anti : Antitone (s ∘ σ)) (p : EReal) :
    ∃ c : ℕ, c ≤ 8192 ∧ atLeast s p = nat c ∧ ∀ i : Fin 8192, p ≤ s (σ i) ↔ i.val < c := by
  refine ⟨_, (Finset.card_le_univ _).trans_eq (Fintype.card_fin _), atLeast_card s p, fun i => ?_⟩
  rw [initial (fun i => p ≤ s (σ i)) (fun a b hab h => h.trans (anti hab)) i]
  have : (Finset.univ.filter fun i => p ≤ s (σ i)).card = (Finset.univ.filter fun j => p ≤ s j).card :=
    Finset.card_bij (fun i _ => σ i) (by simp) (fun _ _ _ _ h => σ.injective h)
      (fun j hj => ⟨σ.symm j, by simpa using hj, by simp⟩)
  rw [this]

/-! ## What holds after any number of probes -/

/-- The bracket stays inside its start, with at least 31 entries from the lower end and fewer than 31 from the upper. -/
theorem probed_inside (n : ℕ) :
    num 0xBF8147AE#32 ≤ (probed s n).lo ∧ (probed s n).hi ≤ num 0x3F8147AE#32 ∧
      nat 31 ≤ (probed s n).clo ∧ (probed s n).chi < nat 31 := by
  induction n with
  | zero =>
    refine ⟨le_rfl, le_rfl, ?_, ?_⟩
    · show nat 31 ≤ num 0x46000000#32
      rw [is_8192]; exact nat_le.mpr (by decide)
    · show num 0x00000000#32 < nat 31
      rw [is_zero]; exact nat_lt.mpr (by decide)
  | succ n ih =>
    obtain ⟨h1, h2, h3, h4⟩ := ih
    simp only [probed, probe, narrow, geBit_eq, select_bit, is_31]
    by_cases h : nat 31 ≤ atLeast s (place (probed s n))
    · simp only [h, if_true]
      exact ⟨h1.trans (le_max_left _ _), h2, trivial, h4⟩
    · simp only [h, if_false]
      exact ⟨h1, (min_le_left _ _).trans h2, h3, not_le.mp h⟩

/-! ## The steps of the extraction, by the counts -/

theorem stepHi_done (e : Ends) (h : e.clo = nat 31) : stepHi s e = e := by
  simp only [stepHi, is_31, h]; cases e; simp_all

theorem stepHi_hit (e : Ends) {c : ℕ} (h : e.clo = nat c) (hc : c ≠ 31) (hd : e.chi = nat 30) :
    stepHi s e = ⟨below s e.hi, nat 31, e.hi, nat 30, e.x⟩ := by
  simp [stepHi, is_31, is_30, h, hd, nat_inj, hc]

theorem stepHi_miss (e : Ends) {c d : ℕ} (h : e.clo = nat c) (hc : c ≠ 31) (hd : e.chi = nat d) (hd' : d < 30) :
    stepHi s e = ⟨e.lo, nat c, if e.lo < below s e.hi then below s e.hi else e.hi,
      if e.lo < below s e.hi then nat (d + 1) else nat d, e.x⟩ := by
  simp [stepHi, is_31, is_30, is_one, h, hd, nat_inj, nat_lt, hc, hd', hd'.ne, nat_succ]

theorem stepLo_done (e : Ends) (h : e.clo = nat 31) : stepLo s e = e := by
  simp only [stepLo, is_31, h]; cases e; simp_all

theorem stepLo_fix (e : Ends) {c : ℕ} (h : e.clo = nat (c + 1)) (hc : 31 ≤ c) :
    stepLo s e = ⟨e.lo, nat c, e.hi, e.chi, above s e.lo e.x⟩ := by
  simp [stepLo, is_31, is_one, h, nat_lt, nat_pred, Nat.lt_succ_of_le hc]

variable (σ : Equiv.Perm (Fin 8192)) (anti : Antitone (s ∘ σ))
include anti

/-- The greatest entry under a bound that the first `d` entries reach. -/
theorem below_eq (hi : EReal) (d : Fin 8192) (h : ∀ i : Fin 8192, hi ≤ s (σ i) ↔ i.val < d.val)
    (hd : ((-2 : ℝ) : EReal) ≤ s (σ d)) : below s hi = s (σ d) := by
  refine le_antisymm (Finset.sup_le fun j _ => ?_) ?_
  · split_ifs with hj
    · obtain ⟨i, rfl⟩ := σ.surjective j
      exact anti (not_lt.mp fun hlt => absurd ((h i).mpr hlt) (not_le.mpr hj))
    · rw [num_neg_two]; exact hd
  · refine le_trans ?_ (Finset.le_sup (Finset.mem_univ (σ d)))
    rw [if_pos (not_le.mp fun hle => lt_irrefl _ ((h d).mp hle))]

/-- The least entry among the first ones that are kept. -/
theorem above_eq (lo x : EReal) (c : Fin 8192) (h : ∀ i : Fin 8192, lo ≤ s (σ i) ∧ x < s (σ i) ↔ i.val ≤ c.val)
    (hc : s (σ c) ≤ ((2 : ℝ) : EReal)) : above s lo x = s (σ c) := by
  refine le_antisymm ?_ (Finset.le_inf fun j _ => ?_)
  · refine le_trans (Finset.inf_le (Finset.mem_univ (σ c))) ?_
    rw [if_pos ((h c).mpr le_rfl)]
  · split_ifs with hj
    · obtain ⟨i, rfl⟩ := σ.surjective j
      exact anti ((h i).mp hj)
    · rw [num_two]; exact hc

set_option maxRecDepth 20000 in
/-- The two rounds leave exactly the first 31 entries. -/
theorem extracted_keeps (b : Bracket) (hlo : num 0xBF8147AE#32 ≤ b.lo) (hhi : b.hi ≤ num 0x3F8147AE#32)
    (h31 : nat 31 ≤ b.clo) (h30 : b.chi < nat 31) (hclo : b.clo = atLeast s b.lo) (hchi : b.chi = atLeast s b.hi)
    (near : b.clo = nat 31 ∨ (b.clo ≤ nat 33 ∨ nat 29 ≤ b.chi) ∧
      s (σ 30) < s (σ 29) ∧ s (σ 31) < s (σ 30) ∧ s (σ 32) < s (σ 31)) (i : Fin 8192) :
    (extracted s b).lo ≤ s (σ i) ∧ (extracted s b).x < s (σ i) ↔ i.val < 31 := by
  obtain ⟨c, c_pos, hc, lo_iff⟩ := atLeast_split s σ anti b.lo
  obtain ⟨d, -, hd, hi_iff⟩ := atLeast_split s σ anti b.hi
  rw [← hclo] at hc
  rw [← hchi] at hd
  rw [hc] at near h31
  rw [hd] at near h30
  have h31 : 31 ≤ c := nat_le.mp h31
  have h30 : d < 31 := nat_lt.mp h30
  have hlo2 : ((-2 : ℝ) : EReal) < b.lo := num_low_end.trans_le hlo
  have hhi2 : b.hi < ((2 : ℝ) : EReal) := hhi.trans_lt num_top_end
  have v30 : ((-2 : ℝ) : EReal) < s (σ 30) := hlo2.trans_le ((lo_iff 30).mpr (show 30 < c by omega))
  have v30' : s (σ 30) < ((2 : ℝ) : EReal) :=
    (not_le.mp fun h => absurd ((hi_iff 30).mp h) (show ¬ 30 < d by omega)).trans hhi2
  have up : ∀ k l : Fin 8192, k.val ≤ l.val → s (σ l) ≤ s (σ k) := fun k l h => anti (Fin.le_def.mpr h)
  have e_clo : (ends b).clo = nat c := hc
  have e_chi : (ends b).chi = nat d := hd
  have neg2 : ∀ i : Fin 8192, i.val < c → num 0xC0000000#32 < s (σ i) := fun i hi => by
    rw [num_neg_two]; exact hlo2.trans_le ((lo_iff i).mpr hi)
  by_cases h : c = 31
  · subst h
    have : extracted s b = ends b := by
      unfold extracted
      rw [stepHi_done s _ e_clo, stepLo_done s _ e_clo, stepHi_done s _ e_clo, stepLo_done s _ e_clo]
    rw [this]
    show b.lo ≤ s (σ i) ∧ num 0xC0000000#32 < s (σ i) ↔ _
    exact ⟨fun h => (lo_iff i).mp h.1, fun h => ⟨(lo_iff i).mpr h, neg2 i h⟩⟩
  obtain ⟨near, a29, a30, a31⟩ := near.resolve_left fun hh => h (nat_inj.mp hh)
  have near : c ≤ 33 ∨ 29 ≤ d := near.imp nat_le.mp nat_le.mp
  have c32 : 32 ≤ c := by omega
  -- keeping from the 31st entry on
  have keep30 : ∀ x : EReal, x < s (σ 30) → (s (σ 30) ≤ s (σ i) ∧ x < s (σ i) ↔ i.val < 31) := fun x hx => by
    constructor
    · intro hh
      by_contra hn
      exact absurd (up 31 i (show 31 ≤ i.val by omega)) (not_le.mpr (a30.trans_le hh.1))
    · intro hh
      have := up i 30 (show i.val ≤ 30 by omega)
      exact ⟨this, hx.trans_le this⟩
  -- keeping what exceeds the 32nd entry
  have keep31 : ∀ lo : EReal, lo ≤ s (σ 31) → (lo ≤ s (σ i) ∧ s (σ 31) < s (σ i) ↔ i.val < 31) := fun lo hx => by
    constructor
    · intro hh
      by_contra hn
      exact absurd (up 31 i (show 31 ≤ i.val by omega)) (not_le.mpr hh.2)
    · intro hh
      have := a30.trans_le (up i 30 (show i.val ≤ 30 by omega))
      exact ⟨hx.trans this.le, this⟩
  have lo31 : b.lo ≤ s (σ 31) := (lo_iff 31).mpr (show 31 < c by omega)
  -- the first step from the lower end removes the last kept entry
  obtain ⟨c', rfl⟩ : ∃ c', c = c' + 1 := ⟨c - 1, by omega⟩
  have hc' : c' < 8192 := by omega
  have ab : above s b.lo (num 0xC0000000#32) = s (σ ⟨c', hc'⟩) := by
    refine above_eq s σ anti _ _ ⟨c', hc'⟩ (fun k => ?_) ((up 30 ⟨c', hc'⟩ (show 30 ≤ c' by omega)).trans v30'.le)
    exact ⟨fun h => Nat.le_of_lt_succ ((lo_iff k).mp h.1),
      fun h => ⟨(lo_iff k).mpr (Nat.lt_succ_of_le h), neg2 k (Nat.lt_succ_of_le h)⟩⟩
  have x30 : s (σ ⟨c', hc'⟩) < s (σ 30) := (up 31 ⟨c', hc'⟩ (show 31 ≤ c' by omega)).trans_lt a30
  by_cases d30 : d = 30
  · subst d30
    have bl : below s b.hi = s (σ 30) := below_eq s σ anti _ 30 hi_iff v30.le
    unfold extracted
    rw [stepHi_hit s _ e_clo h e_chi, stepLo_done s ⟨_, nat 31, _, _, _⟩ rfl, stepHi_done s ⟨_, nat 31, _, _, _⟩ rfl,
      stepLo_done s ⟨_, nat 31, _, _, _⟩ rfl]
    show below s b.hi ≤ _ ∧ num 0xC0000000#32 < _ ↔ _
    rw [bl]
    exact keep30 _ (by rw [num_neg_two]; exact v30)
  have d29 : d < 30 := by omega
  unfold extracted
  rw [stepHi_miss s _ e_clo h e_chi d29, stepLo_fix s ⟨_, nat (c' + 1), _, _, _⟩ rfl (by omega)]
  show (stepLo s (stepHi s ⟨b.lo, nat c', if b.lo < below s b.hi then below s b.hi else b.hi,
    if b.lo < below s b.hi then nat (d + 1) else nat d, above s b.lo (num 0xC0000000#32)⟩)).lo ≤ _ ∧
    (stepLo s (stepHi s ⟨b.lo, nat c', if b.lo < below s b.hi then below s b.hi else b.hi,
    if b.lo < below s b.hi then nat (d + 1) else nat d, above s b.lo (num 0xC0000000#32)⟩)).x < _ ↔ _
  rw [ab]
  by_cases c31 : c' = 31
  · subst c31
    rw [stepHi_done s ⟨_, nat 31, _, _, _⟩ rfl, stepLo_done s ⟨_, nat 31, _, _, _⟩ rfl]
    exact keep31 _ lo31
  by_cases d28 : d = 29
  · subst d28
    have bl : below s b.hi = s (σ 29) := below_eq s σ anti _ 29 hi_iff (v30.le.trans a29.le)
    have lt : b.lo < s (σ 29) := lo31.trans_lt (a30.trans a29)
    rw [bl, if_pos lt, if_pos lt, stepHi_hit s ⟨_, nat c', _, nat (29 + 1), _⟩ rfl c31 rfl,
      stepLo_done s ⟨_, nat 31, _, _, _⟩ rfl]
    show below s (s (σ 29)) ≤ _ ∧ s (σ ⟨c', hc'⟩) < _ ↔ _
    rw [below_eq s σ anti (s (σ 29)) 30 (fun k => ?_) v30.le]
    · exact keep30 _ x30
    · constructor
      · intro hk
        by_contra hn
        exact absurd (up 30 k (show 30 ≤ k.val from not_lt.mp hn)) (not_le.mpr (a29.trans_le hk))
      · intro hk
        have hk : k.val < 30 := hk
        exact up k 29 (show k.val ≤ 29 by omega)
  -- here two steps from the lower end remove the 33rd and the 32nd entry
  obtain rfl : c' = 32 := by omega
  obtain ⟨d', hd', hd''⟩ : ∃ d', (if b.lo < below s b.hi then nat (d + 1) else nat d) = nat d' ∧ d' < 30 := by
    split_ifs
    · exact ⟨d + 1, rfl, by omega⟩
    · exact ⟨d, rfl, by omega⟩
  rw [hd', stepHi_miss s ⟨_, nat 32, _, nat d', _⟩ rfl c31 rfl hd'', stepLo_fix s ⟨_, nat 32, _, _, _⟩ (c := 31) rfl le_rfl]
  show b.lo ≤ _ ∧ above s b.lo (s (σ ⟨32, hc'⟩)) < _ ↔ _
  rw [above_eq s σ anti b.lo _ 31 (fun k => ?_) ((up 30 31 (by decide)).trans v30'.le)]
  · exact keep31 _ lo31
  · constructor
    · intro hk
      by_contra hn
      exact absurd (up ⟨32, hc'⟩ k (show 32 ≤ k.val from Nat.succ_le_of_lt (not_le.mp hn))) (not_le.mpr hk.2)
    · intro hk
      have hk : k.val ≤ 31 := hk
      exact ⟨lo31.trans (up k 31 hk), a31.trans_le (up k 31 hk)⟩

/-- The bracket after seven probes has the right counts, and is near enough to the row's 31st greatest entry. -/
def Landed (b : Bracket) : Prop :=
  b.clo = atLeast s b.lo ∧ b.chi = atLeast s b.hi ∧ (b.clo = nat 31 ∨ (b.clo ≤ nat 33 ∨ nat 29 ≤ b.chi) ∧
    s (σ 30) < s (σ 29) ∧ s (σ 31) < s (σ 30) ∧ s (σ 32) < s (σ 31))

/-- The search leaves the 31 greatest entries of the row, clipped at zero, and nothing else. -/
theorem found_top (land : Landed s σ (probed s 7)) (i : Fin 8192) :
    found s (σ i) = if i.val < 31 then max (s (σ i)) 0 else 0 := by
  obtain ⟨h1, h2, h3, h4⟩ := probed_inside s 7
  have key := extracted_keeps s σ anti (probed s 7) h1 h2 h3 h4 land.1 land.2.1 land.2.2 i
  unfold found left
  rw [num_zero]
  by_cases hi : i.val < 31
  · obtain ⟨k1, k2⟩ := key.mpr hi
    rw [if_pos hi]
    by_cases h0 : 0 < s (σ i)
    · rw [if_pos ⟨k1, max_lt k2 h0⟩, max_eq_left h0.le]
    · rw [if_neg fun h => h0 (lt_of_le_of_lt (le_max_right _ _) h.2), max_eq_right (not_lt.mp h0)]
  · rw [if_neg hi, if_neg fun h => hi (key.mp ⟨h.1, lt_of_le_of_lt (le_max_left _ _) h.2⟩)]

end Cert.TopK

end
-- ==== Proof.PreLanded.lean ====
/-
  What the precondition gives: both weights are the identity, and the search of every row lands.
-/
module

public import proofs.«01_k».proof.Proof.PreProbe
public import proofs.«01_k».proof.Proof.Row

@[expose] public section

noncomputable section

open Idealize.ShloMosaic

namespace Cert.Pre_search_lands.TopK

open Cert.Pre_search_lands Cert.Pre_search_lands.Held Cert.TopK Facts

variable (a0 : FVec Ideal S8192x1024 .f32) (a1 : FVec Ideal S1024x1024 .f32) (a2 : FVec Ideal S1024 .f32)
  (a3 : FVec Ideal S1024x1024 .f32) (a4 : FVec Ideal S1024 .f32)

/-- The similarities of the precondition. -/
abbrev simsOf : Sims := fn_similarity (F := Ideal) a0 a1 a2 a3 a4

/-- The identity matrix as the precondition writes it. -/
def identity : FVec Ideal S1024x1024 .f32 :=
  uitofp (F := Ideal) .f32 (cmpi .eq (addi (iotaInDim S1024x1024 32 0) (broadcastInDim S1024x1024 ![] bcast_S_S1024x1024 (constantI S_ 32 0#32)))
    (iotaInDim S1024x1024 32 1))

theorem identity_at (i j : Fin 1024) : identity (ix2 i j) = if i = j then (1 : EReal) else 0 := by
  show (((BitVec.ofBool (BitVec.ofNat 32 i.val + 0#32 == BitVec.ofNat 32 j.val)).toNat : ℝ) : EReal) = _
  have h : (BitVec.ofNat 32 i.val + 0#32 == BitVec.ofNat 32 j.val) = decide (i = j) := by
    rw [BitVec.add_zero, Bool.eq_iff_iff, beq_iff_eq, decide_eq_true_iff, Fin.ext_iff, ← BitVec.toNat_inj, BitVec.toNat_ofNat, BitVec.toNat_ofNat]
    omega
  rw [h, bit_to_real]
  split_ifs <;> simp

/-- The precondition's three results, with the probes gathered. -/
theorem fn_first : (fn (F := Ideal) a0 a1 a2 a3 a4).1 = cmpf (F := Ideal) .oeq a1 identity := rfl
theorem fn_second : (fn (F := Ideal) a0 a1 a2 a3 a4).2.1 = cmpf (F := Ideal) .oeq a3 identity := rfl

/-- Whether the last bracket lands, as a column of one-bit words. -/
def landedBits (x : Sims) (c : Cols) : IVec S8192x1 1 := fn_landed (F := Ideal) x c.1 c.2.1 c.2.2.1 c.2.2.2.1

set_option maxRecDepth 20000 in
theorem fn_third : (fn (F := Ideal) a0 a1 a2 a3 a4).2.2 = landedBits (simsOf a0 a1 a2 a3 a4) (columnsAfter (simsOf a0 a1 a2 a3 a4) 7) := by
  unfold fn fn_part1 fn_part2 fn_part3 landedBits
  rfl

theorem eq_of_bits {s : Shape} (x y : FVec Ideal s .f32) (h : cmpf (F := Ideal) .oeq x y = fun _ => 1#1) : x = y := by
  funext i
  have e : cmpBit .oeq (x i) (y i) = 1#1 := congrFun h i
  rwa [cmpBit_eq, bit_one] at e

/-- The greatest 33 entries of every row. -/
def best (x : Sims) : FVec Ideal S8192x33 .f32 :=
  (Host.topK S8192x33 1 (FloatOps.cmpfTotal (F := Ideal) (φ := .f32) .gt) x sliceFits_S8192x8192_S8192x33).1

/-- A slice of one column reads that column. -/
theorem column_at {α : Type} {n K : ℕ} (y : (⟨2, ![n, K]⟩ : Shape).Idx → α) (k : Fin K)
    (h : (⟨2, ![n, K]⟩ : Shape).Slices ![0, k.val] ⟨2, ![n, 1]⟩) (i : Fin n) :
    extractStridedSlice (⟨2, ![n, 1]⟩ : Shape) ![0, k.val] y h (ix2 i (0 : Fin 1)) = y (ix2 i k) := by
  refine congrArg y ((eq_ix2 _).trans ?_)
  congr 1
  exact Fin.ext (Nat.zero_add _)

/-- Column `k` of the greatest 33 entries of every row. -/
theorem best_at (x : Sims) (i : Fin 8192) (k : Fin 33) (hk : k.val < 8192) (h : S8192x33.Slices ![0, k.val] S8192x1) :
    extractStridedSlice S8192x1 ![0, k.val]
      (best x) h (at0 i)
      = rowOf x i (order (rowOf x i) ⟨k.val, hk⟩) := by
  exact (column_at (best x) k h i).trans (topK_value x sliceFits_S8192x8192_S8192x33 i k hk)

theorem landed_of_bits (x : Sims) (c : Cols) (i : Fin 8192) (h : landedBits x c (at0 i) = 1#1) :
    Landed (rowOf x i) (order (rowOf x i)) (bracket c i) := by
  have e : landedBits x c (at0 i) =
      IntOp.andi (IntOp.andi (cmpBit .oeq (c.2.1 (at0 i)) (fn_count_from (F := Ideal) x c.1 (at0 i)))
          (cmpBit .oeq (c.2.2.2.1 (at0 i)) (fn_count_from (F := Ideal) x c.2.2.1 (at0 i))))
        (IntOp.ori (cmpBit .oeq (c.2.1 (at0 i)) (num 0x41F80000#32))
          (IntOp.andi (IntOp.ori (cmpBit .ole (c.2.1 (at0 i)) (num 0x42040000#32)) (cmpBit .oge (c.2.2.2.1 (at0 i)) (num 0x41E80000#32)))
            (IntOp.andi (IntOp.andi
              (cmpBit .ogt (extractStridedSlice (α := EReal) S8192x1 ![0, 29] (best x) slices_S8192x33_S8192x1_0_29 (at0 i))
                (extractStridedSlice (α := EReal) S8192x1 ![0, 30] (best x) slices_S8192x33_S8192x1_0_30 (at0 i)))
              (cmpBit .ogt (extractStridedSlice (α := EReal) S8192x1 ![0, 30] (best x) slices_S8192x33_S8192x1_0_30 (at0 i))
                (extractStridedSlice (α := EReal) S8192x1 ![0, 31] (best x) slices_S8192x33_S8192x1_0_31 (at0 i))))
              (cmpBit .ogt (extractStridedSlice (α := EReal) S8192x1 ![0, 31] (best x) slices_S8192x33_S8192x1_0_31 (at0 i))
                (extractStridedSlice (α := EReal) S8192x1 ![0, 32] (best x) slices_S8192x33_S8192x1_0_32 (at0 i)))))) := by
    unfold landedBits fn_landed
    rfl
  have b29 : extractStridedSlice (α := EReal) S8192x1 ![0, 29] (best x) slices_S8192x33_S8192x1_0_29 (at0 i) = rowOf x i (order (rowOf x i) 29) :=
    best_at x i 29 (by decide) slices_S8192x33_S8192x1_0_29
  have b30 : extractStridedSlice (α := EReal) S8192x1 ![0, 30] (best x) slices_S8192x33_S8192x1_0_30 (at0 i) = rowOf x i (order (rowOf x i) 30) :=
    best_at x i 30 (by decide) slices_S8192x33_S8192x1_0_30
  have b31 : extractStridedSlice (α := EReal) S8192x1 ![0, 31] (best x) slices_S8192x33_S8192x1_0_31 (at0 i) = rowOf x i (order (rowOf x i) 31) :=
    best_at x i 31 (by decide) slices_S8192x33_S8192x1_0_31
  have b32 : extractStridedSlice (α := EReal) S8192x1 ![0, 32] (best x) slices_S8192x33_S8192x1_0_32 (at0 i) = rowOf x i (order (rowOf x i) 32) :=
    best_at x i 32 (by decide) slices_S8192x33_S8192x1_0_32
  rw [e, count_at, count_at, b29, b30, b31, b32] at h
  simp only [cmpBit_eq, cmpBit_le, cmpBit_ge, cmpBit_gt, and_bit, or_bit, bit_one, is_31, is_33, is_29] at h
  exact ⟨h.1.1, h.1.2, h.2.imp id fun k => ⟨k.1, k.2.1.1, k.2.1.2, k.2.2⟩⟩

/-- Under the precondition the search of every row lands. -/
theorem lands (h : (fn (F := Ideal) a0 a1 a2 a3 a4).2.2 = fun _ => 1#1) (i : Fin 8192) :
    Landed (rowOf (simsOf a0 a1 a2 a3 a4) i) (order (rowOf (simsOf a0 a1 a2 a3 a4) i)) (probed (rowOf (simsOf a0 a1 a2 a3 a4) i) 7) := by
  rw [← columnsAfter_at]
  refine landed_of_bits _ _ i ?_
  rw [← fn_third, h]

end Cert.Pre_search_lands.TopK

end
-- ==== Proof.PreUnit.lean ====
/-
  The similarities of the reference, entry by entry, when both weights are the identity.
-/
module

public import proofs.«01_k».proof.Proof.PreLanded
public import proofs.«01_k».proof.Proof.Unit
public import Idealize.ShloMosaic.Lib.StackMember

@[expose] public section

noncomputable section

open Idealize.ShloMosaic

namespace Cert.Pre_search_lands.TopK

open Cert.Pre_search_lands Cert.Pre_search_lands.Held Cert.TopK Facts

/-- Rows of features. -/
abbrev Rows : Type := FVec Ideal S8192x1024 .f32

/-- A plain product read at an entry. -/
theorem dot_at {M K N : ℕ} (d : DotDims ⟨2, ![M, K]⟩ ⟨2, ![K, N]⟩ ⟨2, ![M, N]⟩) (hd : d = DotDims.plain M K N)
    (x : FVec Ideal ⟨2, ![M, K]⟩ .f32) (y : FVec Ideal ⟨2, ![K, N]⟩ .f32) (r : Fin M) (c : Fin N) :
    Host.dotGeneral (F := Ideal) d none x y (ix2 r c) = ∑ k, x (ix2 r k) * y (ix2 k c) := by
  subst hd
  exact StackMember.dotGeneral_plain_apply none x y r c

/-- Multiplying by the transposed identity changes nothing. -/
def turned (x : Rows) (w : FVec Ideal S1024x1024 .f32) : Rows :=
  Host.dotGeneral (F := Ideal) dot_S8192x1024_S1024x1024_S8192x1024_1_0_0_1_n_n none x
    (transpose S1024x1024 [1, 0] w transposes_S1024x1024_S1024x1024_1_0)

theorem turn_at (w : FVec Ideal S1024x1024 .f32) (k l : Fin 1024) :
    transpose S1024x1024 [1, 0] w transposes_S1024x1024_S1024x1024_1_0 (ix2 k l) = w (ix2 l k) := by
  pointwise

theorem turned_at (x : Rows) (w : FVec Ideal S1024x1024 .f32) (i : Fin 8192) (l : Fin 1024) :
    turned x w (ix2 i l) = ∑ k : Fin 1024, x (ix2 i k) * w (ix2 l k) :=
  (dot_at _ rfl x _ i l).trans (Finset.sum_congr rfl fun k _ => congrArg (x (ix2 i k) * ·) (turn_at w k l))

theorem turned_identity (x : Rows) (i : Fin 8192) (l : Fin 1024) : turned x identity (ix2 i l) = x (ix2 i l) := by
  rw [turned_at, Finset.sum_eq_single l]
  · rw [identity_at, if_pos rfl, mul_one]
  · intro k _ hk
    rw [identity_at, if_neg (Ne.symm hk), mul_zero]
  · intro h
    exact absurd (Finset.mem_univ l) h

/-- A vector spread down the rows. -/
theorem line_at (b : FVec Ideal S1024 .f32) (i : Fin 8192) (k : Fin 1024) :
    broadcastInDim S8192x1024 ![0, 1] bcast_S1x1024_S8192x1024_0_1 (broadcastInDim S1x1024 ![1] bcast_S1024_S1x1024_1 b) (ix2 i k) = b (ix1 k) := by
  pointwise

/-- The rows before they are scaled. -/
def raised (x : Rows) (w : FVec Ideal S1024x1024 .f32) (b : FVec Ideal S1024 .f32) (w' : FVec Ideal S1024x1024 .f32) (d : FVec Ideal S1024 .f32) : Rows :=
  addf (F := Ideal) (φ := .f32) (turned (maximumf (F := Ideal) (φ := .f32) (addf (F := Ideal) (φ := .f32) (turned x w)
      (broadcastInDim S8192x1024 ![0, 1] bcast_S1x1024_S8192x1024_0_1 (broadcastInDim S1x1024 ![1] bcast_S1024_S1x1024_1 b)))
      (broadcastInDim S8192x1024 ![] bcast_S_S8192x1024 (constant (F := Ideal) S_ .f32 0x00000000#32))) w')
    (broadcastInDim S8192x1024 ![0, 1] bcast_S1x1024_S8192x1024_0_1 (broadcastInDim S1x1024 ![1] bcast_S1024_S1x1024_1 d))

theorem raised_at (x : Rows) (b d : FVec Ideal S1024 .f32) (i : Fin 8192) (k : Fin 1024) :
    raised x identity b identity d (ix2 i k) = shifted (fun l => x (ix2 i l)) (fun l => b (ix1 l)) (fun l => d (ix1 l)) k := by
  show turned _ identity (ix2 i k) + broadcastInDim S8192x1024 ![0, 1] bcast_S1x1024_S8192x1024_0_1 (broadcastInDim S1x1024 ![1] bcast_S1024_S1x1024_1 d) (ix2 i k) = _
  rw [turned_identity, line_at]
  show max (turned x identity (ix2 i k) + broadcastInDim S8192x1024 ![0, 1] bcast_S1x1024_S8192x1024_0_1 (broadcastInDim S1x1024 ![1] bcast_S1024_S1x1024_1 b) (ix2 i k))
    (num 0x00000000#32) + d (ix1 k) = _
  rw [turned_identity, line_at]
  rfl

/-- The sums of squares of the rows, as a column. -/
def squares (h : Rows) : Col :=
  broadcastInDim S8192x1 ![0] bcast_S8192_S8192x1_0
    (Host.reduceAdd (F := Ideal) (mulf h h) (constant S_ .f32 0x00000000#32) reducesTo_S8192x1024_S8192_d1 h_S_)

theorem squares_at (h : Rows) (i : Fin 8192) : squares h (at0 i) = ∑ l, h (ix2 i l) * h (ix2 i l) := by
  refine (Ideal.hostReduceAdd_r2_a1 _ _ _ _).trans ?_
  refine (congrArg (· + _) (Ideal.ofBits_zero_f32)).trans ((zero_add _).trans ?_)
  rfl

/-- A column spread over the rows. -/
theorem column1024_at (p : Col) (i : Fin 8192) (k : Fin 1024) :
    broadcastInDim S8192x1024 ![0, 1] bcast_S8192x1_S8192x1024_0_1 p (ix2 i k) = p (at0 i) := by
  pointwise

/-- The lengths of the rows, and the rows divided by them. -/
def lengths (h : Rows) : Col :=
  maximumf (F := Ideal) (φ := .f32) (Host.sqrt (F := Ideal) (φ := .f32) (squares h))
    (broadcastInDim S8192x1 ![] bcast_S_S8192x1 (constant (F := Ideal) S_ .f32 0x2B8CBCCC#32))

def scaledRows (h : Rows) : Rows :=
  Host.divf (F := Ideal) (φ := .f32) h (broadcastInDim S8192x1024 ![0, 1] bcast_S8192x1_S8192x1024_0_1 (lengths h))

theorem larger_at {s : Shape} (x : FVec Ideal s .f32) (h : S_.BroadcastsInDim s (![] : Fin 0 → Fin s.rank)) (b : BitVec 32) (i : s.Idx) :
    maximumf (F := Ideal) (φ := .f32) (Host.sqrt (F := Ideal) (φ := .f32) x) (broadcastInDim s ![] h (constant (F := Ideal) S_ .f32 b)) i
      = max (Ideal.sqrt (x i)) (num b) := rfl

theorem lengths_at (h : Rows) (i : Fin 8192) : lengths h (at0 i) = max (Ideal.sqrt (squares h (at0 i))) (num 0x2B8CBCCC#32) :=
  larger_at _ _ _ _

theorem quotient_at {s : Shape} (x y : FVec Ideal s .f32) (i : s.Idx) : Host.divf (F := Ideal) (φ := .f32) x y i = Ideal.div (x i) (y i) := rfl

theorem scaledRows_at (h : Rows) (i : Fin 8192) (k : Fin 1024) : scaledRows h (ix2 i k) = scaled (fun l => h (ix2 i l)) k := by
  refine (quotient_at _ _ _).trans ?_
  rw [column1024_at, lengths_at, squares_at]
  rfl

theorem flip_at (e : Rows) (k : Fin 1024) (j : Fin 8192) :
    transpose S1024x8192 [1, 0] e transposes_S8192x1024_S1024x8192_1_0 (ix2 k j) = e (ix2 j k) := by
  pointwise

variable (a0 : FVec Ideal S8192x1024 .f32) (a1 : FVec Ideal S1024x1024 .f32) (a2 : FVec Ideal S1024 .f32)
  (a3 : FVec Ideal S1024x1024 .f32) (a4 : FVec Ideal S1024 .f32)

theorem sims_eq : simsOf a0 a1 a2 a3 a4
    = Host.dotGeneral (F := Ideal) dot_S8192x1024_S1024x8192_S8192x8192_1_0_0_1_n_n none (scaledRows (raised a0 a1 a2 a3 a4))
        (transpose S1024x8192 [1, 0] (scaledRows (raised a0 a1 a2 a3 a4)) transposes_S8192x1024_S1024x8192_1_0) := by
  unfold simsOf fn_similarity scaledRows lengths raised turned squares fn_relu fn_norm
  rfl

/-- Row `i` of the compared rows. -/
def unitOf (i : Fin 8192) : Fin 1024 → EReal :=
  unit (fun l => a0 (ix2 i l)) (fun l => a2 (ix1 l)) (fun l => a4 (ix1 l))

/-- With identity weights the similarities are the inner products of the scaled rows. -/
theorem sims_at (i j : Fin 8192) :
    simsOf a0 identity a2 identity a4 (ix2 i j) = inner (unitOf a0 a2 a4 i) (unitOf a0 a2 a4 j) := by
  rw [sims_eq]
  refine (dot_at _ rfl _ _ i j).trans ?_
  refine Finset.sum_congr rfl fun k _ => ?_
  refine congrArg₂ (· * ·) ?_ ((flip_at _ k j).trans ?_)
  all_goals
    rw [scaledRows_at]
    simp only [raised_at]
    rfl

end Cert.Pre_search_lands.TopK

end
-- ==== Proof.Whole.lean ====
/-
  The kernel's result as a function of its arguments.
-/
module

public import proofs.«01_k».proof.Proof.Rows0
public import proofs.«01_k».proof.Proof.Rows1
public import proofs.«01_k».proof.Proof.Run
public import proofs.«01_k».proof.Proof.PreUnit

@[expose] public section

noncomputable section

open Idealize.ShloMosaic Idealize.ShloMosaic.TcCoe Idealize.SL.Sem
open Idealize.ShloMosaic.Pipeline (Dat)

namespace Cert.KernelIdeal.TopK

open Cert.KernelIdeal Cert.KernelIdeal.Gen Cert.TopK

variable (m : (ℓ : Loc nD τ sig) → Buf (Elt Ideal) ℓ) (ρ : Dev nD → PrngReg) (c : Dev nD)

/-- The features and the two shifts, as launched. -/
abbrev arg0 : FVec Ideal S8192x1024 .f32 := m ((c.tc : Thread nD τ).loc main_arg0)
abbrev arg2 : FVec Ideal S1024 .f32 := m ((c.tc : Thread nD τ).loc main_arg2)
abbrev arg4 : FVec Ideal S1024 .f32 := m ((c.tc : Thread nD τ).loc main_arg4)

theorem line_of (b : FVec Ideal S1024 .f32) (k : Fin 1024) : shapeCast S1x1024 b shapeCasts_S1024_S1x1024 (ix2 (0 : Fin 1) k) = b (ix1 k) := by
  pointwise

theorem flip_of (x : FVec Ideal S8192x1024 .bf16) (k : Fin 1024) (j : Fin 8192) :
    transpose S1024x8192 [1, 0] x transposes_S8192x1024_S1024x8192_1_0 (ix2 k j) = x (ix2 j k) := by
  pointwise

theorem entry_arg0 : V1 m ρ c main_arg0 = arg0 m c := W1_args m ρ c main_arg0 (by decide)

theorem entry_v0 : V1 m ρ c main_call0_v0 = shapeCast S1x1024 (arg2 m c) shapeCasts_S1024_S1x1024 := by
  show StableHlo.after hostOps0 (W0 m ρ c) (Proc.devRef .tc main_call0_v0) = _
  after_results
  rfl

theorem entry_v1 : V1 m ρ c main_call0_v1 = shapeCast S1x1024 (arg4 m c) shapeCasts_S1024_S1x1024 := by
  show StableHlo.after hostOps0 (W0 m ρ c) (Proc.devRef .tc main_call0_v1) = _
  after_results
  rfl

/-- The scaled rows of the arguments. -/
def embedded : FVec Ideal S8192x1024 .bf16 :=
  unitRows (arg0 m c) (shapeCast S1x1024 (arg2 m c) shapeCasts_S1024_S1x1024) (shapeCast S1x1024 (arg4 m c) shapeCasts_S1024_S1x1024)

theorem between : W2 m ρ c (Proc.devRef .tc main_call0_v2) = embedded m c := by
  refine (W2_arr m ρ c 3).trans ((rows_after (V1 m ρ) c).trans ?_)
  rw [entry_arg0, entry_v0, entry_v1]
  rfl

theorem entry_v2 : V3 m ρ c main_call0_v2 = embedded m c :=
  (W3_of m ρ c main_call0_v2 (by decide)).trans (between m ρ c)

theorem entry_v3 : V3 m ρ c main_call0_v3 = transpose S1024x8192 [1, 0] (embedded m c) transposes_S8192x1024_S1024x8192_1_0 := by
  rw [← between m ρ c]
  show StableHlo.after hostOps1 (W2 m ρ c) (Proc.devRef .tc main_call0_v3) = _
  after_results
  rfl

/-- The kernel's result. -/
def result : FVec Ideal S8192x8192 .f32 :=
  foundRows (embedded m c) (transpose S1024x8192 [1, 0] (embedded m c) transposes_S8192x1024_S1024x8192_1_0)

theorem result_after : (dat1 (V3 m ρ) c).arrAt 2 cfg1.N = result m c := by
  refine (found_after (V3 m ρ) c).trans ?_
  rw [entry_v2, entry_v3]
  rfl

theorem embedded_at (i : Fin 8192) (k : Fin 1024) :
    embedded m c (ix2 i k) = Cert.Pre_search_lands.TopK.unitOf (arg0 m c) (arg2 m c) (arg4 m c) i k := by
  show unit (fun l => arg0 m c (ix2 i l)) (fun l => shapeCast S1x1024 (arg2 m c) shapeCasts_S1024_S1x1024 (ix2 (0 : Fin 1) l))
    (fun l => shapeCast S1x1024 (arg4 m c) shapeCasts_S1024_S1x1024 (ix2 (0 : Fin 1) l)) k = _
  rw [funext fun l => line_of (arg2 m c) l, funext fun l => line_of (arg4 m c) l]
  rfl

/-- Entry by entry: what the search leaves of the row of inner products. -/
theorem result_at (i j : Fin 8192) : result m c (ix2 i j)
    = found (fun j => inner (Cert.Pre_search_lands.TopK.unitOf (arg0 m c) (arg2 m c) (arg4 m c) i)
        (Cert.Pre_search_lands.TopK.unitOf (arg0 m c) (arg2 m c) (arg4 m c) j)) j := by
  refine (foundRows_at _ _ i j).trans (congrArg (fun s => found s j) (funext fun l => ?_))
  exact congrArg₂ inner (funext fun k => embedded_at m c i k) (funext fun k => (flip_of _ k l).trans (embedded_at m c l k))

end Cert.KernelIdeal.TopK

end
-- ==== Proof.RefTop.lean ====
/-
  The reference's last steps on a matrix of similarities: the mask that a scatter of ones makes of each row's top 31,
  the product with it, and the clip at zero, read at each place of a row in falling order.
-/
module

public import proofs.«01_k».proof.Proof.Gen.ReferenceIdeal
public import proofs.«01_k».proof.Proof.Order
public import Idealize.ShloMosaic.Lib.Pointwise
public import Idealize.ShloMosaic.Lib.Pipeline.Value
public import Idealize.ShloMosaic.Lib.Routing.OpsPair
public import Idealize.ShloMosaic.Lib.Routing.OpsSet

@[expose] public section

noncomputable section

open Idealize.ShloMosaic Idealize.ShloMosaic.TcCoe Idealize.SL.Sem

namespace Cert.ReferenceIdeal.TopK

open Cert.ReferenceIdeal Cert.ReferenceIdeal.Gen Cert.TopK

/-- The places of each row's top 31, as words. -/
def places (x : FVec Ideal S8192x8192 .f32) : IVec S8192x31 32 :=
  (Host.topK S8192x31 1 (FloatOps.cmpfTotal (F := Ideal) (φ := .f32) .gt) x sliceFits_S8192x8192_S8192x31).2

/-- The row numbers, a negative one wrapped. -/
def rowWords : IVec S8192x31x1 32 :=
  broadcastInDim S8192x31x1 ![0, 1] bcast_S8192x31_S8192x31x1_0_1 (broadcastInDim S8192x31 ![0, 1] bcast_S8192x1_S8192x31_0_1
    (select (cmpi .slt (broadcastInDim S8192x1 ![0] bcast_S8192_S8192x1_0 (iotaInDim S8192 32 0)) (broadcastInDim S8192x1 ![] bcast_S_S8192x1 (constantI S_ 32 0#32)))
      (addi (broadcastInDim S8192x1 ![0] bcast_S8192_S8192x1_0 (iotaInDim S8192 32 0)) (broadcastInDim S8192x1 ![] bcast_S_S8192x1 (constantI S_ 32 8192#32)))
      (broadcastInDim S8192x1 ![0] bcast_S8192_S8192x1_0 (iotaInDim S8192 32 0))))

/-- The places, a negative one wrapped. -/
def placeWords (p : IVec S8192x31 32) : IVec S8192x31x1 32 :=
  broadcastInDim S8192x31x1 ![0, 1] bcast_S8192x31_S8192x31x1_0_1
    (select (cmpi .slt p (broadcastInDim S8192x31 ![] bcast_S_S8192x31 (constantI S_ 32 0#32)))
      (addi p (broadcastInDim S8192x31 ![] bcast_S_S8192x31 (constantI S_ 32 8192#32))) p)

/-- Where the scatter writes: pairs of a row number and a place. -/
def pairs (x : FVec Ideal S8192x8192 .f32) : IVec S8192x31x2 32 :=
  concatenate S8192x31x2 2 [⟨S8192x31x1, rowWords⟩, ⟨S8192x31x1, placeWords (places x)⟩] concatenates_S8192x31x1_S8192x31x1_S8192x31x2_d2

/-- The mask. -/
def mask (x : FVec Ideal S8192x8192 .f32) : FVec Ideal S8192x8192 .f32 :=
  Host.scatter scatter_S8192x8192_S8192x31x2_S8192x31_n_01_01_2 (fun _ b => b)
    (broadcastInDim S8192x8192 ![] bcast_S_S8192x8192 (constant (F := Ideal) S_ .f32 0x00000000#32)) (pairs x)
    (broadcastInDim S8192x31 ![] bcast_S_S8192x31 (constant (F := Ideal) S_ .f32 0x3F800000#32))

/-- The reference's result from the similarities. -/
def clipped (x : FVec Ideal S8192x8192 .f32) : FVec Ideal S8192x8192 .f32 :=
  maximumf (mulf x (mask x)) (broadcastInDim S8192x8192 ![] bcast_S_S8192x8192 (constant (F := Ideal) S_ .f32 0x00000000#32))

/-- A word that counts a place below 8192 is not wrapped. -/
theorem wrapped (n : Nat) (hn : n < 8192) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem rowWords_at (i : Fin 8192) (k : Fin 31) : rowWords (ix3 i k 0) = BitVec.ofNat 32 i.val :=
  wrapped i.val i.isLt _

theorem placeWords_at (p : IVec S8192x31 32) (i : Fin 8192) (k : Fin 31) (n : Nat) (hn : n < 8192)
    (hp : p (ix2 i k) = BitVec.ofNat 32 n) : placeWords p (ix3 i k 0) = BitVec.ofNat 32 n := by
  have e : placeWords p (ix3 i k 0) = Scalar.select (IntOp.cmpi .slt (p (ix2 i k)) 0#32) (IntOp.addi (p (ix2 i k)) 8192#32) (p (ix2 i k)) := by
    unfold placeWords
    pointwise
  rw [e, hp]
  exact wrapped n hn _

theorem pairs_row (x : FVec Ideal S8192x8192 .f32) (i : Fin 8192) (k : Fin 31) : pairs x (ix3 i k 0) = BitVec.ofNat 32 i.val :=
  (concatenate_pair_apply_left (t := S8192x31x2) 2 rowWords (placeWords (places x)) _ (ix3 i k 0) rfl (ix3 i k 0) (fun b => by
    match b with
    | ⟨0, _⟩ => rfl
    | ⟨1, _⟩ => rfl
    | ⟨2, _⟩ => rfl)).trans (rowWords_at i k)

theorem pairs_place (x : FVec Ideal S8192x8192 .f32) (i : Fin 8192) (k : Fin 31) :
    pairs x (ix3 i k 1) = BitVec.ofNat 32 (order (rowOf x i) ⟨k.val, by omega⟩).val :=
  (concatenate_pair_apply_right (t := S8192x31x2) 2 rowWords (placeWords (places x)) _ (ix3 i k 1) rfl rfl (ix3 i k 0)
    (fun b hb => by
      match b with
      | ⟨0, _⟩ => rfl
      | ⟨1, _⟩ => rfl
      | ⟨2, _⟩ => exact absurd rfl hb) rfl).trans
    (placeWords_at _ i k _ (Fin.isLt _) (topK_place x _ i k (by omega)))

theorem toInt_small (n : Nat) (hn : n < 8192) : (BitVec.ofNat 32 n).toInt = n := by
  rw [BitVec.toInt_eq_toNat_of_lt (by rw [BitVec.toNat_ofNat]; omega), BitVec.toNat_ofNat, Nat.mod_eq_of_lt (by omega)]

/-- Which update writes where. -/
theorem lands (x : FVec Ideal S8192x8192 .f32) (a : Fin 8192) (k : Fin 31) (i j : Fin 8192) :
    scatter_S8192x8192_S8192x31x2_S8192x31_n_01_01_2.resultIdx? (ix2 a k) (pairs x) = some (ix2 i j) ↔
      a = i ∧ order (rowOf x a) ⟨k.val, by omega⟩ = j := by
  refine (Routing.scatter_lands2 (R := 8192) (C := 8192) (A := 8192) (B := 31) scatter_S8192x8192_S8192x31x2_S8192x31_n_01_01_2 rfl rfl rfl (pairs x) a k i j).trans ?_
  have h0 : (pairs x (ix3 a k 0)).toInt = a.val := by rw [pairs_row, toInt_small _ a.isLt]
  have h1 : (pairs x (ix3 a k 1)).toInt = (order (rowOf x a) ⟨k.val, by omega⟩).val := by rw [pairs_place, toInt_small _ (Fin.isLt _)]
  refine Iff.trans (Iff.of_eq (congrArg₂ And (congrArg (· = ((i.val : ℕ) : ℤ)) h0) (congrArg (· = ((j.val : ℕ) : ℤ)) h1))) ?_
  rw [Int.natCast_inj, Int.natCast_inj, Fin.ext_iff, Fin.ext_iff]

/-- The mask is one at the first 31 places of each row in falling order, and zero at the others. -/
theorem mask_at (x : FVec Ideal S8192x8192 .f32) (i p : Fin 8192) :
    mask x (ix2 i (order (rowOf x i) p)) = if p.val < 31 then (1 : EReal) else 0 := by
  by_cases h : p.val < 31
  · rw [if_pos h]
    refine (Routing.scatter_set_hit _ _ _ _ _ (num 0x3F800000#32) (fun _ _ => rfl) (ix2 i ⟨p.val, h⟩) ((lands x i ⟨p.val, h⟩ i _).mpr ⟨rfl, rfl⟩)).trans ?_
    rw [num_one]; rfl
  · rw [if_neg h]
    refine (Routing.scatter_set_miss _ _ _ _ _ (fun k hk => ?_)).trans num_zero
    rw [eq_ix2 k] at hk
    obtain ⟨h1, h2⟩ := (lands x (k 0) (k 1) i _).mp hk
    rw [h1] at h2
    have := congrArg Fin.val ((order (rowOf x i)).injective h2)
    exact h (this ▸ (k 1).isLt)

/-- The reference's result at each place of row `i` in falling order. -/
theorem clipped_at (x : FVec Ideal S8192x8192 .f32) (i p : Fin 8192) :
    clipped x (ix2 i (order (rowOf x i) p)) = if p.val < 31 then max (rowOf x i (order (rowOf x i) p)) 0 else 0 := by
  show max (rowOf x i (order (rowOf x i) p) * mask x (ix2 i (order (rowOf x i) p))) (num 0x00000000#32) = _
  rw [mask_at, num_zero]
  split_ifs
  · rw [mul_one]
  · rw [mul_zero, max_self]

end Cert.ReferenceIdeal.TopK

end
-- ==== Proof.RefValue.lean ====
/-
  The reference's result as its last steps applied to the similarities that the precondition speaks of.
-/
module

public import proofs.«01_k».proof.Proof.RefTop
public import proofs.«01_k».proof.Proof.PreLanded
public import proofs.«01_k».proof.Proof.Gen.ReferenceIdeal.Run

@[expose] public section

noncomputable section

open Idealize.ShloMosaic Idealize.ShloMosaic.TcCoe Idealize.SL.Sem

namespace Cert.ReferenceIdeal.TopK

open Cert.ReferenceIdeal Cert.ReferenceIdeal.Gen Cert.ReferenceIdeal.Value Cert.TopK

variable (m : (ℓ : Loc nD τ sig) → Buf (Elt Ideal) ℓ) (c : Dev nD)

/-- The similarities of the reference's arguments. -/
abbrev sims : FVec Ideal S8192x8192 .f32 :=
  Cert.Pre_search_lands.TopK.simsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

theorem reference_eq : res_main_v38 (F := Ideal) m c = clipped (sims m c) := by
  unfold res_main_v38 clipped sims Cert.Pre_search_lands.TopK.simsOf mask pairs rowWords placeWords places
  unfold Cert.Pre_search_lands.fn_similarity Cert.Pre_search_lands.fn_relu Cert.Pre_search_lands.fn_norm
  rfl

end Cert.ReferenceIdeal.TopK

end
-- ==== Proof.Agree.lean ====
/-
  Under the precondition both programs leave the same entries.
-/
module

public import proofs.«01_k».proof.Proof.Whole
public import proofs.«01_k».proof.Proof.RefValue

@[expose] public section

noncomputable section

open Idealize.ShloMosaic Idealize.ShloMosaic.TcCoe Idealize.SL.Sem

namespace Cert.TopK

open Cert.Pre_search_lands Cert.Pre_search_lands.TopK Cert.ReferenceIdeal.TopK

/-- What the search leaves of a row is the reference's clipped top 31 of it, where the search of that row lands. -/
theorem found_clipped (x : FVec Ideal (Sq 8192) .f32) (i j : Fin 8192)
    (land : Landed (rowOf x i) (order (rowOf x i)) (probed (rowOf x i) 7)) :
    found (rowOf x i) j = clipped x (ix2 i j) := by
  obtain ⟨p, rfl⟩ := (order (rowOf x i)).surjective j
  exact (found_top (rowOf x i) (order (rowOf x i)) (order_anti _) land p).trans (clipped_at x i p).symm

end Cert.TopK

namespace Cert.KernelIdeal.TopK

open Cert.KernelIdeal Cert.KernelIdeal.Gen Cert.TopK Cert.Pre_search_lands.TopK

variable (m : (ℓ : Loc nD τ sig) → Buf (Elt Ideal) ℓ) (c : Dev nD)

/-- The similarities of the kernel's arguments. -/
abbrev sims : FVec Ideal S8192x8192 .f32 :=
  simsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- In a row in which the search lands, the kernel's result is the reference's last steps applied to the similarities. -/
theorem result_row
    (h1 : m ((c.tc : Thread nD τ).loc main_arg1) = identity) (h3 : m ((c.tc : Thread nD τ).loc main_arg3) = identity)
    (i j : Fin 8192) (land : Landed (rowOf (sims m c) i) (order (rowOf (sims m c) i)) (probed (rowOf (sims m c) i) 7)) :
    result m c (ix2 i j) = Cert.ReferenceIdeal.TopK.clipped (sims m c) (ix2 i j) := by
  refine (result_at m c i j).trans (Eq.trans ?_ (found_clipped (sims m c) i j land))
  refine congrArg (fun s => found s j) (funext fun l => ?_)
  have hs : sims m c = simsOf (arg0 m c) identity (arg2 m c) identity (arg4 m c) := by
    unfold sims
    rw [h1, h3]
  exact ((congrFun hs (ix2 i l)).trans (sims_at _ _ _ i l)).symm

/-- Where the search of every row lands, so is the whole result. -/
theorem result_eq
    (h1 : m ((c.tc : Thread nD τ).loc main_arg1) = identity) (h3 : m ((c.tc : Thread nD τ).loc main_arg3) = identity)
    (land : ∀ i, Landed (rowOf (sims m c) i) (order (rowOf (sims m c) i)) (probed (rowOf (sims m c) i) 7)) :
    result m c = Cert.ReferenceIdeal.TopK.clipped (sims m c) := by
  funext e
  obtain ⟨i, j, rfl⟩ : ∃ (i j : Fin 8192), e = ix2 i j := ⟨e 0, e 1, eq_ix2 e⟩
  exact result_row m c h1 h3 i j (land i)

end Cert.KernelIdeal.TopK

end
-- ==== Proof.MaskFacts.lean ====
/-
  The side conditions of the mask's operations and of the condition on the weights, each a closed statement about
  literal shapes.
-/
module

public import proofs.«01_k».proof.On_landed_rows
public import proofs.«01_k».proof.Pre_weights_identity
public import Idealize.ShloMosaic.Lib.Decide

@[expose] public section

open Idealize.ShloMosaic

namespace Cert.On_landed_rows.Held

/-- The mask's side conditions hold. -/
instance held : Cert.On_landed_rows.Facts where
  transposes_S1024x1024_S1024x1024_1_0 := by decide
  bcast_S1024_S1x1024_1 := by decide
  bcast_S1x1024_S8192x1024_0_1 := by decide
  bcast_S_S8192x1024 := by decide
  reducesTo_S8192x1024_S8192_d1 := by decide
  h_S_ := by decide
  bcast_S8192_S8192x1_0 := by decide
  bcast_S_S8192x1 := by decide
  bcast_S8192x1_S8192x1024_0_1 := by decide
  transposes_S8192x1024_S1024x8192_1_0 := by decide
  reducesTo_S8192x8192_S8192_d1 := by decide
  bcast_S8192x1_S8192x8192_0_1 := by decide
  sliceFits_S8192x8192_S8192x33 := by decide
  slices_S8192x33_S8192x1_0_29 := by decide
  slices_S8192x33_S8192x1_0_30 := by decide
  slices_S8192x33_S8192x1_0_31 := by decide
  slices_S8192x33_S8192x1_0_32 := by decide
  dot_S8192x1024_S1024x1024_S8192x1024_1_0_0_1_n_n_wf := by decide
  dot_S8192x1024_S1024x8192_S8192x8192_1_0_0_1_n_n_wf := by decide

end Cert.On_landed_rows.Held

namespace Cert.Pre_weights_identity.Held

/-- The side condition of the condition on the weights holds. -/
instance held : Cert.Pre_weights_identity.Facts where
  bcast_S_S1024x1024 := by decide

end Cert.Pre_weights_identity.Held

end
-- ==== Proof.MaskRows.lean ====
/-
  What the mask selects: the entries of the rows in which the search lands.
-/
module

public import proofs.«01_k».proof.Proof.MaskFacts
public import proofs.«01_k».proof.Proof.PreLanded

@[expose] public section

noncomputable section

open Idealize.ShloMosaic

namespace Cert.On_landed_rows.TopK

open Cert.On_landed_rows Cert.On_landed_rows.Held Cert.Pre_search_lands.TopK Cert.TopK Facts

variable (a0 : FVec Ideal S8192x1024 .f32) (a1 : FVec Ideal S1024x1024 .f32) (a2 : FVec Ideal S1024 .f32)
  (a3 : FVec Ideal S1024x1024 .f32) (a4 : FVec Ideal S1024 .f32)

set_option maxRecDepth 20000 in
/-- The mask is the column of the rows that land, spread over the columns of the result. -/
theorem mask_eq : fn (F := Ideal) a0 a1 a2 a3 a4 =
    broadcastInDim S8192x8192 ![0, 1] bcast_S8192x1_S8192x8192_0_1
      (landedBits (simsOf a0 a1 a2 a3 a4) (columnsAfter (simsOf a0 a1 a2 a3 a4) 7)) := by
  unfold fn fn_part1 fn_part2 landedBits
  rfl

/-- Where the mask selects an entry, the search of the entry's row lands. -/
theorem lands_of_mask (i j : Fin 8192) (h : fn (F := Ideal) a0 a1 a2 a3 a4 (ix2 i j) = 1#1) :
    Landed (rowOf (simsOf a0 a1 a2 a3 a4) i) (order (rowOf (simsOf a0 a1 a2 a3 a4) i))
      (probed (rowOf (simsOf a0 a1 a2 a3 a4) i) 7) := by
  rw [← columnsAfter_at]
  refine landed_of_bits _ _ i ?_
  rw [mask_eq] at h
  exact (spread_at _ i j).symm.trans h

end Cert.On_landed_rows.TopK

namespace Cert.Pre_weights_identity.TopK

open Cert.Pre_weights_identity Cert.Pre_weights_identity.Held Cert.Pre_search_lands.TopK

variable (a0 : FVec Ideal S8192x1024 .f32) (a1 : FVec Ideal S1024x1024 .f32) (a2 : FVec Ideal S1024 .f32)
  (a3 : FVec Ideal S1024x1024 .f32) (a4 : FVec Ideal S1024 .f32)

/-- The condition on the weights, compared with the identity of the other condition. -/
theorem fn_first : (fn (F := Ideal) a0 a1 a2 a3 a4).1 = cmpf (F := Ideal) .oeq a1 identity := rfl
theorem fn_second : (fn (F := Ideal) a0 a1 a2 a3 a4).2 = cmpf (F := Ideal) .oeq a3 identity := rfl

end Cert.Pre_weights_identity.TopK

end
-- ==== Proof.Equal.lean ====
/-
  The kernel and the reference, run on the same arguments, end with the same result.
-/
module

public import proofs.«01_k».proof.Defs
public import proofs.«01_k».proof.Proof.Agree
public import proofs.«01_k».proof.Proof.MaskRows
public import Idealize.ShloMosaic.Lib.Quiescent

@[expose] public section

noncomputable section

open Idealize.ShloMosaic Idealize.ShloMosaic.TcCoe Idealize.SL.Sem

namespace Cert.Proof

open Cert.Pre_search_lands Cert.Pre_search_lands.TopK

/-- The reference runs, leaves its arguments and has no counter to leave. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

variable (m : (ℓ : Loc Cert.KernelIdeal.nD Cert.KernelIdeal.τ Cert.KernelIdeal.sig) → Buf (Elt Ideal) ℓ)

/-- Where the precondition holds, the kernel's result is the clipped top 31 of the similarities. -/
theorem kernel_value (h : Cert.Pre_KernelIdeal_search_lands m) (c : Dev Cert.KernelIdeal.nD) :
    Cert.KernelIdeal.TopK.result m c = Cert.ReferenceIdeal.TopK.clipped (Cert.KernelIdeal.TopK.sims m c) :=
  Cert.KernelIdeal.TopK.result_eq m c (eq_of_bits _ _ ((fn_first _ _ _ _ _).symm.trans (h c).1))
    (eq_of_bits _ _ ((fn_second _ _ _ _ _).symm.trans (h c).2.1)) (lands _ _ _ _ _ (h c).2.2)

/-- The reference's result on the same arguments. -/
theorem reference_value (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v38 m' c = Cert.ReferenceIdeal.TopK.clipped (Cert.KernelIdeal.TopK.sims m c) := by
  rw [Cert.ReferenceIdeal.TopK.reference_eq]
  obtain ⟨e0, e1, e2, e3, e4⟩ := h
  unfold Cert.ReferenceIdeal.TopK.sims Cert.KernelIdeal.TopK.sims
  rw [e0, e1, e2, e3, e4]

/-- Where both weights are the identity, the kernel's result is the clipped top 31 of the similarities at every entry
    that the mask selects. -/
theorem kernel_rows (h : Cert.Pre_KernelIdeal_weights_identity m) (c : Dev Cert.KernelIdeal.nD) (e : (⟨2, ![8192, 8192]⟩ : Shape).Idx)
    (he : Cert.On_landed_rows.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) e = 1#1) :
    Cert.KernelIdeal.TopK.result m c e = Cert.ReferenceIdeal.TopK.clipped (Cert.KernelIdeal.TopK.sims m c) e := by
  obtain ⟨i, j, rfl⟩ : ∃ (i j : Fin 8192), e = ix2 i j := ⟨e 0, e 1, eq_ix2 e⟩
  exact Cert.KernelIdeal.TopK.result_row m c
    (eq_of_bits _ _ ((Cert.Pre_weights_identity.TopK.fn_first _ _ _ _ _).symm.trans (h c).1))
    (eq_of_bits _ _ ((Cert.Pre_weights_identity.TopK.fn_second _ _ _ _ _).symm.trans (h c).2)) i j
    (Cert.On_landed_rows.TopK.lands_of_mask _ _ _ _ _ i j he)

/-- Both programs end with the same result where the search of every row lands. -/
theorem equal_results : Cert.algebraic_KernelIdeal_ReferenceIdeal_pre_search_lands := fun m g m' g' hpre hargs =>
  ⟨fun c => Cert.KernelIdeal.TopK.result m c,
    (θ_run Cert.KernelIdeal.defs _ _).mono (fun _ h c => ⟨(h c).1.trans (Cert.KernelIdeal.TopK.result_after m g c), (h c).2⟩)
      (Cert.KernelIdeal.TopK.run m g),
    (θ_run Cert.ReferenceIdeal.defs _ _).mono (fun _ h c =>
        ⟨(h c).1.trans ((reference_value m m' c (hargs c)).trans (kernel_value m hpre c).symm), (h c).2⟩)
      (Cert.ReferenceIdeal.Value.run (F := Ideal) m' g')⟩

/-- Both programs end with the same entries in every row in which the search lands. -/
theorem equal_rows : Cert.algebraic_KernelIdeal_ReferenceIdeal_on_landed_rows_pre_weights_identity := fun m g m' g' hpre hargs =>
  ⟨fun c => Cert.KernelIdeal.TopK.result m c,
    (θ_run Cert.KernelIdeal.defs _ _).mono
      (fun _ h c => ⟨fun e _ => congrFun ((h c).1.trans (Cert.KernelIdeal.TopK.result_after m g c)) e, (h c).2⟩)
      (Cert.KernelIdeal.TopK.run m g),
    (θ_run Cert.ReferenceIdeal.defs _ _).mono (fun _ h c =>
        ⟨fun e he => (congrFun ((h c).1.trans (reference_value m m' c (hargs c))) e).trans (kernel_rows m hpre c e he).symm, (h c).2⟩)
      (Cert.ReferenceIdeal.Value.run (F := Ideal) m' g')⟩

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_search_lands.Held.held,
    Cert.Pre_weights_identity.Held.held, Cert.On_landed_rows.Held.held,
    fun m ρ _ => Cert.Kernel.Gen.frame m ρ,
    fun m ρ _ => Cert.KernelIdeal.Gen.frame m ρ,
    fun m ρ _ => Cert.KernelIdeal.Gen.frame m ρ,
    fun m ρ _ => Cert.KernelIdeal.Gen.frame m ρ,
    reference_frame,
    fun m ρ _ => reference_frame m ρ trivial,
    fun m ρ _ => reference_frame m ρ trivial,
    trivial,
    equal_results,
    equal_rows⟩

end Cert.Proof

end
